-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S25000x12 : Shape := ⟨2, ![25000, 12]⟩
abbrev S4x64 : Shape := ⟨2, ![4, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S4x4 : Shape := ⟨2, ![4, 4]⟩
abbrev S_ : Shape := ⟨0, ![]⟩
abbrev S3x4 : Shape := ⟨2, ![3, 4]⟩
abbrev S3x1x4x1 : Shape := ⟨4, ![3, 1, 4, 1]⟩
abbrev S1x4x1x64 : Shape := ⟨4, ![1, 4, 1, 64]⟩
abbrev S3x4x4x64 : Shape := ⟨4, ![3, 4, 4, 64]⟩
abbrev S12x256 : Shape := ⟨2, ![12, 256]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64 : Shape := ⟨2, ![1, 64]⟩
abbrev S1x256 : Shape := ⟨2, ![1, 256]⟩
abbrev S25000x256 : Shape := ⟨2, ![25000, 256]⟩
abbrev S5000x12 : Shape := ⟨2, ![5000, 12]⟩
abbrev S5000x256 : Shape := ⟨2, ![5000, 256]⟩
abbrev S5000x64 : Shape := ⟨2, ![5000, 64]⟩

abbrev nBuf : Space → Nat
  | .hbm => 40
  | .vmem => 10
  | .smem => 0
  | _ => 0

abbrev bufTy : (tb : Table) → Fin (tcTables nBuf tb) → BufTy
  | .hbm, ⟨0, _⟩ => ⟨S25000x12, .f32⟩
  | .hbm, ⟨1, _⟩ => ⟨S4x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x256, .f32⟩
  | .hbm, ⟨6, _⟩ => ⟨S256, .f32⟩
  | .hbm, ⟨7, _⟩ => ⟨S4x4, .i1⟩
  | .hbm, ⟨8, _⟩ => ⟨S4x4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4, .f32⟩
  | .hbm, ⟨14, _⟩ => ⟨S4x4, .f32⟩
  | .hbm, ⟨15, _⟩ => ⟨S4x4, .f32⟩
  | .hbm, ⟨16, _⟩ => ⟨S3x4, .f32⟩
  | .hbm, ⟨17, _⟩ => ⟨S3x1x4x1, .f32⟩
  | .hbm, ⟨18, _⟩ => ⟨S1x4x1x64, .f32⟩
  | .hbm, ⟨19, _⟩ => ⟨S3x4x4x64, .f32⟩
  | .hbm, ⟨20, _⟩ => ⟨S3x4x4x64, .f32⟩
  | .hbm, ⟨21, _⟩ => ⟨S3x4x4x64, .f32⟩
  | .hbm, ⟨22, _⟩ => ⟨S12x256, .f32⟩
  | .hbm, ⟨23, _⟩ => ⟨S4x4, .f32⟩
  | .hbm, ⟨24, _⟩ => ⟨S4x1x4x1, .f32⟩
  | .hbm, ⟨25, _⟩ => ⟨S1x64x1x64, .f32⟩
  | .hbm, ⟨26, _⟩ => ⟨S4x64x4x64, .f32⟩
  | .hbm, ⟨27, _⟩ => ⟨S4x64x4x64, .f32⟩
  | .hbm, ⟨28, _⟩ => ⟨S4x64x4x64, .f32⟩
  | .hbm, ⟨29, _⟩ => ⟨S256x256, .f32⟩
  | .hbm, ⟨30, _⟩ => ⟨S1x64, .f32⟩
  | .hbm, ⟨31, _⟩ => ⟨S4x64, .f32⟩
  | .hbm, ⟨32, _⟩ => ⟨S256, .f32⟩
  | .hbm, ⟨33, _⟩ => ⟨S1x256, .f32⟩
  | .hbm, ⟨34, _⟩ => ⟨S1x64, .f32⟩
  | .hbm, ⟨35, _⟩ => ⟨S4x64, .f32⟩
  | .hbm, ⟨36, _⟩ => ⟨S256, .f32⟩
  | .hbm, ⟨37, _⟩ => ⟨S1x256, .f32⟩
  | .hbm, ⟨38, _⟩ => ⟨S1x256, .f32⟩
  | .hbm, ⟨39, _⟩ => ⟨S25000x256, .f32⟩
  | .local _ .vmem, ⟨0, _⟩ => ⟨S5000x12, .f32⟩
  | .local _ .vmem, ⟨1, _⟩ => ⟨S5000x12, .f32⟩
  | .local _ .vmem, ⟨2, _⟩ => ⟨S12x256, .f32⟩
  | .local _ .vmem, ⟨3, _⟩ => ⟨S256x256, .f32⟩
  | .local _ .vmem, ⟨4, _⟩ => ⟨S64x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S25000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S25000x12 : Shape := ⟨2, ![25000, 12]⟩
abbrev S4x64 : Shape := ⟨2, ![4, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S2x6 : Shape := ⟨2, ![2, 6]⟩
abbrev S25000x3x4 : Shape := ⟨3, ![25000, 3, 4]⟩
abbrev S_ : Shape := ⟨0, ![]⟩
abbrev S25000x1x4 : Shape := ⟨3, ![25000, 1, 4]⟩
abbrev S25000x4x4 : Shape := ⟨3, ![25000, 4, 4]⟩
abbrev S100000x4 : Shape := ⟨2, ![100000, 4]⟩
abbrev S25000 : Shape := ⟨1, ![25000]⟩
abbrev S2x1x6 : Shape := ⟨3, ![2, 1, 6]⟩
abbrev S1x25000x1 : Shape := ⟨3, ![1, 25000, 1]⟩
abbrev S2x25000x6 : Shape := ⟨3, ![2, 25000, 6]⟩
abbrev S2x150000 : Shape := ⟨2, ![2, 150000]⟩
abbrev S1x150000 : Shape := ⟨2, ![1, 150000]⟩
abbrev S150000 : Shape := ⟨1, ![150000]⟩
abbrev S100000x64 : Shape := ⟨2, ![100000, 64]⟩
abbrev S100000 : Shape := ⟨1, ![100000]⟩
abbrev S250000 : Shape := ⟨1, ![250000]⟩
abbrev S250000x1 : Shape := ⟨2, ![250000, 1]⟩
abbrev S250000x64 : Shape := ⟨2, ![250000, 64]⟩
abbrev S1x64 : Shape := ⟨2, ![1, 64]⟩
abbrev S100000x256 : Shape := ⟨2, ![100000, 256]⟩
abbrev S1x256 : Shape := ⟨2, ![1, 256]⟩
abbrev S25000x4x256 : Shape := ⟨3, ![25000, 4, 256]⟩
abbrev S25000x256 : Shape := ⟨2, ![25000, 256]⟩

abbrev nBuf : Space → Nat
  | .hbm => 165
  | .vmem => 0
  | .smem => 0
  | _ => 0

abbrev hbmTy0_0 (i : Nat) : BufTy := match i % 128 with
  | 0 => ⟨S25000x12, .f32⟩
  | 1 => ⟨S4x64, .f32⟩
  | 2 => ⟨S64, .f32⟩
  | 3 => ⟨S64x64, .f32⟩
  | 4 => ⟨S64, .f32⟩
  | 5 => ⟨S64x256, .f32⟩
  | 6 => ⟨S256, .f32⟩
  | 7 => ⟨S2x6, .i32⟩
  | 8 => ⟨S25000x3x4, .f32⟩
  | 9 => ⟨S_, .f32⟩
  | 10 => ⟨S25000x1x4, .f32⟩
  | 11 => ⟨S25000x4x4, .f32⟩
  | 12 => ⟨S100000x4, .f32⟩
  | 13 => ⟨S25000, .i32⟩
  | 14 => ⟨S_, .i32⟩
  | 15 => ⟨S25000, .i32⟩
  | 16 => ⟨S25000, .i32⟩
  | 17 => ⟨S2x1x6, .i32⟩
  | 18 => ⟨S1x25000x1, .i32⟩
  | 19 => ⟨S2x25000x6, .i32⟩
  | 20 => ⟨S2x25000x6, .i32⟩
  | 21 => ⟨S2x25000x6, .i32⟩
  | 22 => ⟨S2x150000, .i32⟩
  | 23 => ⟨S1x150000, .i32⟩
  | 24 => ⟨S150000, .i32⟩
  | 25 => ⟨S1x150000, .i32⟩
  | 26 => ⟨S150000, .i32⟩
  | 27 => ⟨S100000x64, .f32⟩
  | 28 => ⟨S100000, .i32⟩
  | 29 => ⟨S250000, .i32⟩
  | 30 => ⟨S250000, .i32⟩
  | 31 => ⟨S_, .f32⟩
  | 32 => ⟨S250000, .f32⟩
  | 33 => ⟨S_, .f32⟩
  | 34 => ⟨S100000, .f32⟩
  | 35 => ⟨S250000x1, .i32⟩
  | 36 => ⟨S100000, .f32⟩
  | 37 => ⟨S100000, .f32⟩
  | 38 => ⟨S_, .f32⟩
  | 39 => ⟨S100000, .f32⟩
  | 40 => ⟨S100000, .f32⟩
  | 41 => ⟨S_, .i32⟩
  | 42 => ⟨S250000, .i32⟩
  | 43 => ⟨S250000, .i1⟩
  | 44 => ⟨S_, .i32⟩
  | 45 => ⟨S250000, .i32⟩
  | 46 => ⟨S250000, .i32⟩
  | 47 => ⟨S250000, .i32⟩
  | 48 => ⟨S250000x1, .i32⟩
  | 49 => ⟨S250000, .f32⟩
  | 50 => ⟨S_, .i32⟩
  | 51 => ⟨S250000, .i32⟩
  | 52 => ⟨S250000, .i1⟩
  | 53 => ⟨S_, .i32⟩
  | 54 => ⟨S250000, .i32⟩
  | 55 => ⟨S250000, .i32⟩
  | 56 => ⟨S250000, .i32⟩
  | 57 => ⟨S250000x1, .i32⟩
  | 58 => ⟨S250000, .f32⟩
  | 59 => ⟨S250000, .f32⟩
  | 60 => ⟨S_, .i32⟩
  | 61 => ⟨S250000, .i32⟩
  | 62 => ⟨S250000, .i1⟩
  | 63 => ⟨S_, .i32⟩
  | 64 => ⟨S250000, .i32⟩
  | 65 => ⟨S250000, .i32⟩
  | 66 => ⟨S250000, .i32⟩
  | 67 => ⟨S250000x1, .i32⟩
  | 68 => ⟨S250000x64, .f32⟩
  | 69 => ⟨S250000x1, .f32⟩
  | 70 => ⟨S250000x64, .f32⟩
  | 71 => ⟨S250000x64, .f32⟩
  | 72 => ⟨S_, .f32⟩
  | 73 => ⟨S100000x64, .f32⟩
  | 74 => ⟨S250000x1, .i32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S100000, .i32⟩
  | 89 => ⟨S250000, .i32⟩
  | 90 => ⟨S250000, .i32⟩
  | 91 => ⟨S_, .f32⟩
  | 92 => ⟨S250000, .f32⟩
  | 93 => ⟨S_, .f32⟩
  | 94 => ⟨S100000, .f32⟩
  | 95 => ⟨S250000x1, .i32⟩
  | 96 => ⟨S100000, .f32⟩
  | 97 => ⟨S100000, .f32⟩
  | 98 => ⟨S_, .f32⟩
  | 99 => ⟨S100000, .f32⟩
  | 100 => ⟨S100000, .f32⟩
  | 101 => ⟨S_, .i32⟩
  | 102 => ⟨S250000, .i32⟩
  | 103 => ⟨S250000, .i1⟩
  | 104 => ⟨S_, .i32⟩
  | 105 => ⟨S250000, .i32⟩
  | 106 => ⟨S250000, .i32⟩
  | 107 => ⟨S250000, .i32⟩
  | 108 => ⟨S250000x1, .i32⟩
  | 109 => ⟨S250000, .f32⟩
  | 110 => ⟨S_, .i32⟩
  | 111 => ⟨S250000, .i32⟩
  | 112 => ⟨S250000, .i1⟩
  | 113 => ⟨S_, .i32⟩
  | 114 => ⟨S250000, .i32⟩
  | 115 => ⟨S250000, .i32⟩
  | 116 => ⟨S250000, .i32⟩
  | 117 => ⟨S250000x1, .i32⟩
  | 118 => ⟨S250000, .f32⟩
  | 119 => ⟨S250000, .f32⟩
  | 120 => ⟨S_, .i32⟩
  | 121 => ⟨S250000, .i32⟩
  | 122 => ⟨S250000, .i1⟩
  | 123 => ⟨S_, .i32⟩
  | 124 => ⟨S250000, .i32⟩
  | 125 => ⟨S250000, .i32⟩
  | 126 => ⟨S250000, .i32⟩
  | 127 => ⟨S250000x1, .i32⟩
  | _ => ⟨S25000x12, .f32⟩

abbrev hbmTy0_1 (i : Nat) : BufTy := match i % 128 with
  | 0 => ⟨S250000x64, .f32⟩
  | 1 => ⟨S250000x1, .f32⟩
  | 2 => ⟨S250000x64, .f32⟩
  | 3 => ⟨S250000x64, .f32⟩
  | 4 => ⟨S_, .f32⟩
  | 5 => ⟨S100000x64, .f32⟩
  | 6 => ⟨S250000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S_, .f32⟩
  | 13 => ⟨S100000x64, .f32⟩
  | 14 => ⟨S100000x64, .i1⟩
  | 15 => ⟨S_, .f32⟩
  | 16 => ⟨S100000x64, .f32⟩
  | 17 => ⟨S100000x64, .f32⟩
  | 18 => ⟨S100000x64, .f32⟩
  | 19 => ⟨S100000x256, .f32⟩
  | 20 => ⟨S1x256, .f32⟩
  | 21 => ⟨S100000x256, .f32⟩
  | 22 => ⟨S100000x256, .f32⟩
  | 23 => ⟨S_, .f32⟩
  | 24 => ⟨S_, .f32⟩
  | 25 => ⟨S100000x256, .f32⟩
  | 26 => ⟨S100000x256, .i1⟩
  | 27 => ⟨S_, .f32⟩
  | 28 => ⟨S100000x256, .f32⟩
  | 29 => ⟨S100000x256, .f32⟩
  | 30 => ⟨S100000x256, .f32⟩
  | 31 => ⟨S25000x4x256, .f32⟩
  | 32 => ⟨S_, .f32⟩
  | 33 => ⟨S25000x256, .f32⟩
  | 34 => ⟨S_, .f32⟩
  | 35 => ⟨S25000x256, .f32⟩
  | 36 => ⟨S25000x256, .f32⟩
  | _ => ⟨S25000x12, .f32⟩

abbrev hbmTy (i : Nat) : BufTy := match i / 128 with
  | 0 => hbmTy0_0 i
  | 1 => hbmTy0_1 i
  | _ => ⟨S25000x12, .f32⟩

abbrev bufTy : (tb : Table) → Fin (tcTables nBuf tb) → BufTy
  | .hbm, ⟨i, _⟩ => hbmTy i
  | _, _ => ⟨S25000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_call1_cst : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_23 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_v107 : Ref sig .tc := ⟨.hbm, 158, rfl⟩
abbrev main_v108 : Ref sig .tc := ⟨.hbm, 159, rfl⟩
abbrev main_cst_24 : Ref sig .tc := ⟨.hbm, 160, rfl⟩
abbrev main_v109 : Ref sig .tc := ⟨.hbm, 161, rfl⟩
abbrev main_cst_25 : Ref sig .tc := ⟨.hbm, 162, rfl⟩
abbrev main_v110 : Ref sig .tc := ⟨.hbm, 163, rfl⟩
abbrev main_v111 : Ref sig .tc := ⟨.hbm, 164, rfl⟩

abbrev nD : Nat := 1
abbrev τ : Topo := Topo.v7x

variable {F : FTy → Type} [FloatOps F]
-- ==== Proof.Maths.lean ====
/- The arithmetic both programs share, on the extended reals and free of either program: the leak of the leaky
   rectifier, the weights of one normalised star of four nodes, the sum of a star's incoming edges regrouped by node,
   and the function of the arguments that both programs are shown to compute. -/
module

public import Idealize.ShloMosaic.PureOps.Ideal.Laws
public import Idealize.ShloMosaic.Lib.IdealHost

@[expose] public section

set_option maxRecDepth 16384

noncomputable section

open Idealize.ShloMosaic

namespace Cert.Star

/-! ## Finite weights that are not negative -/

/-- A finite weight that is not negative may be multiplied into a sum of two extended reals. -/
theorem weight_add {c : ℝ} (hc : 0 ≤ c) (x y : EReal) : (c : EReal) * (x + y) = c * x + c * y :=
  EReal.left_distrib_of_nonneg_of_ne_top (EReal.coe_nonneg.mpr hc) (EReal.coe_ne_top c) x y

/-- A finite weight that is not negative may be multiplied into a finite sum of extended reals. -/
theorem weight_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, weight_add hc, ih]

/-! ## The leaky rectifier -/

/-- The slope below zero: the single-precision word nearest one hundredth. -/
def slope : EReal := Ideal.ofBits .f32 0x3C23D70A#32

/-- The slope is the real number `10737418 · 2⁻³⁰`. -/
theorem slope_eq : slope = ((10737418 / 1073741824 : ℝ) : EReal) := by
  unfold slope
  simp [Ideal.ofBits, Ideal.ieee, -EReal.coe_mul]
  norm_num

/-- The leaky rectifier: the greater of `x` and the slope times `x`. -/
def leaky (x : EReal) : EReal := max x (slope * x)

/-- Where `x` is not negative the leaky rectifier is `x`. -/
theorem leaky_of_nonneg {x : EReal} (h : 0 ≤ x) : leaky x = x := by
  unfold leaky
  rw [slope_eq]
  refine max_eq_left ?_
  calc ((10737418 / 1073741824 : ℝ) : EReal) * x ≤ 1 * x :=
        mul_le_mul_of_nonneg_right (by exact_mod_cast (by norm_num : (10737418 / 1073741824 : ℝ) ≤ 1)) h
    _ = x := one_mul x

/-- Where `x` is negative the leaky rectifier is the slope times `x`. -/
theorem leaky_of_neg {x : EReal} (h : x < 0) : leaky x = slope * x := by
  unfold leaky
  rw [slope_eq]
  refine max_eq_right ?_
  have hx : (0 : EReal) ≤ -x := EReal.neg_nonneg.mpr h.le
  have h1 : ((10737418 / 1073741824 : ℝ) : EReal) * -x ≤ -x := by
    calc ((10737418 / 1073741824 : ℝ) : EReal) * -x ≤ 1 * -x :=
          mul_le_mul_of_nonneg_right (by exact_mod_cast (by norm_num : (10737418 / 1073741824 : ℝ) ≤ 1)) hx
      _ = -x := one_mul _
  rw [mul_neg] at h1
  exact EReal.neg_le_neg_iff.mp h1

/-- Choosing `x` where `x ≥ 0` and the slope times `x` elsewhere is the leaky rectifier. -/
theorem leaky_eq_select (x : EReal) :
    Scalar.select (Ideal.cmp .oge x 0) x (slope * x) = leaky x := by
  by_cases h : (0 : EReal) ≤ x
  · rw [leaky_of_nonneg h]
    simp [Ideal.cmp, Scalar.select, h]
  · rw [leaky_of_neg (not_le.mp h)]
    simp [Ideal.cmp, Scalar.select, h]

/-! ## The weights of one star -/

/-- The weight, as a real number, with which node `i` of a star enters node `j`: a quarter from the centre to itself,
    one half from a leaf to itself, `(1/2)·(1/√2)` between the centre and a leaf, nothing between two leaves. -/
def wtR (j i : Fin 4) : ℝ :=
  if j = 0 then (if i = 0 then 1 / 4 else 1 / 2 / Real.sqrt 2)
  else if i = 0 then 1 / 2 / Real.sqrt 2 else if i = j then 1 / 2 else 0

/-- The same weight as an extended real. -/
def wt (j i : Fin 4) : EReal := (wtR j i : EReal)

/-- No weight is negative. -/
theorem wtR_nonneg (j i : Fin 4) : 0 ≤ wtR j i := by
  unfold wtR
  split_ifs <;> positivity

/-- One over the root of a node's degree: degree 4 for the centre, 2 for a leaf. -/
def invRoot (j : Fin 4) : ℝ := if j = 0 then 1 / 2 else 1 / Real.sqrt 2

/-- The centre's own weight is the product of its two inverse roots. -/
theorem invRoot_centre : invRoot 0 * invRoot 0 = wtR 0 0 := by
  simp [invRoot, wtR]; norm_num

/-- The weight between the centre and a leaf is the product of their inverse roots. -/
theorem invRoot_centre_leaf {i : Fin 4} (h : i ≠ 0) : invRoot 0 * invRoot i = wtR i 0 := by
  simp [invRoot, wtR, h]; ring

/-- The weight between a leaf and the centre is the product of their inverse roots. -/
theorem invRoot_leaf_centre {i : Fin 4} (h : i ≠ 0) : invRoot i * invRoot 0 = wtR 0 i := by
  simp [invRoot, wtR, h]; ring

/-- A leaf's own weight is the product of its two inverse roots. -/
theorem invRoot_leaf {i : Fin 4} (h : i ≠ 0) : invRoot i * invRoot i = wtR i i := by
  have h2 : Real.sqrt 2 * Real.sqrt 2 = 2 := Real.mul_self_sqrt (by norm_num)
  simp only [invRoot, wtR, h, if_false, if_true]
  rw [div_mul_div_comm, h2, one_mul]

/-! ## The edges: each star's six spokes, star after star, then every node's edge to itself -/

/-- The source within a star of spoke `t`. -/
def spokeSrc : Fin 6 → ℕ := ![0, 1, 0, 2, 0, 3]

/-- The destination within a star of spoke `t`. -/
def spokeDst : Fin 6 → ℕ := ![1, 0, 2, 0, 3, 0]

/-- The node at the end of edge `e`, its ends within a star given by `base`. -/
def endOf (base : Fin 6 → ℕ) (e : ℕ) : ℕ :=
  if e < 150000 then base ⟨e % 6, Nat.mod_lt _ (by norm_num)⟩ + 4 * (e / 6) else e - 150000

/-- A spoke's node, by star and spoke. -/
theorem endOf_spoke (base : Fin 6 → ℕ) {g : ℕ} (hg : g < 25000) (t : Fin 6) :
    endOf base (6 * g + t.val) = base t + 4 * g := by
  have ht := t.isLt
  unfold endOf
  rw [if_pos (by omega)]
  have h1 : (6 * g + t.val) % 6 = t.val := by omega
  have h2 : (6 * g + t.val) / 6 = g := by omega
  rw [h2]
  congr 2
  exact Fin.ext h1

/-- The edge of a node to itself. -/
theorem endOf_self (base : Fin 6 → ℕ) (v : ℕ) : endOf base (150000 + v) = v := by
  unfold endOf
  rw [if_neg (by omega)]
  omega

/-- Every node an edge ends at is a node of the graph. -/
theorem endOf_lt (base : Fin 6 → ℕ) (hb : ∀ t, base t < 4) {e : ℕ} (he : e < 250000) : endOf base e < 100000 := by
  unfold endOf
  split_ifs with h
  · have := hb ⟨e % 6, Nat.mod_lt _ (by norm_num)⟩
    omega
  · omega

/-- A spoke starts at one of the four nodes, -/
theorem spokeSrc_lt (t : Fin 6) : spokeSrc t < 4 := by revert t; decide
/-- and ends at one of them. -/
theorem spokeDst_lt (t : Fin 6) : spokeDst t < 4 := by revert t; decide

/-- A sum over `N = a · b + c` consecutive numbers, the first `a · b` of them taken in `a` groups of `b`. -/
theorem sum_groups {M : Type} [AddCommMonoid M] (a b c N : ℕ) (hN : N = a * b + c) (F : ℕ → M) :
    ∑ e : Fin N, F e.val
      = (∑ g : Fin a, ∑ t : Fin b, F (b * g.val + t.val)) + ∑ v : Fin c, F (a * b + v.val) := by
  subst hN
  rw [Fin.sum_univ_add, ← finProdFinEquiv.sum_comp, Fintype.sum_prod_type]
  refine congrArg₂ (· + ·) (Finset.sum_congr rfl fun g _ => Finset.sum_congr rfl fun t _ => congrArg F ?_) rfl
  show t.val + b * g.val = _
  omega

/-- A sum over all the edges is a sum over the spokes of all stars and one over the edges of the nodes to themselves. -/
theorem sum_edges {M : Type} [AddCommMonoid M] (F : ℕ → M) :
    ∑ e : Fin 250000, F e.val
      = (∑ g : Fin 25000, ∑ t : Fin 6, F (6 * g.val + t.val)) + ∑ v : Fin 100000, F (150000 + v.val) :=
  sum_groups 25000 6 100000 250000 (by norm_num) F

/-- The edges that end at node `j` of star `g`: the spokes of that star that end at `j`, and the node's edge to itself. -/
theorem sum_into {M : Type} [AddCommMonoid M] (F : ℕ → M) {g : ℕ} (hg : g < 25000) (j : Fin 4) :
    (∑ e : Fin 250000, if endOf spokeDst e.val = 4 * g + j.val then F e.val else 0)
      = (∑ t : Fin 6, if spokeDst t = j.val then F (6 * g + t.val) else 0) + F (150000 + (4 * g + j.val)) := by
  have hj := j.isLt
  rw [sum_edges (fun e => if endOf spokeDst e = 4 * g + j.val then F e else 0)]
  refine congrArg₂ (· + ·) ?_ ?_
  · rw [Finset.sum_eq_single (⟨g, hg⟩ : Fin 25000)]
    · refine Finset.sum_congr rfl fun t _ => ?_
      rw [endOf_spoke _ hg]
      congr 1
      exact propext ⟨fun h => by omega, fun h => by omega⟩
    · intro g' _ hne
      refine Finset.sum_eq_zero fun t _ => ?_
      rw [endOf_spoke _ g'.isLt, if_neg]
      have := spokeDst_lt t
      have : g'.val ≠ g := fun h => hne (Fin.ext h)
      omega
    · intro h; exact absurd (Finset.mem_univ _) h
  · rw [Finset.sum_eq_single (⟨4 * g + j.val, by omega⟩ : Fin 100000)]
    · rw [endOf_self, if_pos rfl]
    · intro v _ hne
      rw [endOf_self, if_neg]
      exact fun h => hne (Fin.ext h)
    · intro h; exact absurd (Finset.mem_univ _) h

/-- The number of edges that end at a node, as an extended real: four at a centre, two at a leaf. -/
theorem degree {g : ℕ} (hg : g < 25000) (j : Fin 4) :
    (∑ e : Fin 250000, if endOf spokeDst e.val = 4 * g + j.val then (1 : EReal) else 0)
      = if j = 0 then ((4 : ℝ) : EReal) else ((2 : ℝ) : EReal) := by
  rw [sum_into (fun _ => (1 : EReal)) hg j, Fin.sum_univ_six]
  have e2 : (1 : EReal) + 1 = ((2 : ℝ) : EReal) := by
    rw [← EReal.coe_one]; norm_cast
  have e4 : ((2 : ℝ) : EReal) + 1 + 1 = ((4 : ℝ) : EReal) := by
    rw [← EReal.coe_one]; norm_cast
  fin_cases j <;> simp [spokeDst, e4, e2]

/-- The messages into node `j` of star `g`, each the source's row times the two ends' inverse roots, add to the
    weighted sum over the star's nodes. `X` is a number at every node, `N` the inverse root at every node. -/
theorem messages (X N : ℕ → EReal) {g : ℕ} (hg : g < 25000)
    (hN : ∀ i : Fin 4, N (4 * g + i.val) = (invRoot i : EReal)) (j : Fin 4) :
    (∑ e : Fin 250000, if endOf spokeDst e.val = 4 * g + j.val
        then X (endOf spokeSrc e.val) * (N (endOf spokeSrc e.val) * N (endOf spokeDst e.val)) else 0)
      = ∑ i : Fin 4, wt j i * X (4 * g + i.val) := by
  rw [sum_into (fun e => X (endOf spokeSrc e) * (N (endOf spokeSrc e) * N (endOf spokeDst e))) hg j]
  simp only [endOf_spoke _ hg, endOf_self]
  have n0 : N (4 * g) = (invRoot 0 : EReal) := hN 0
  have n1 : N (4 * g + 1) = (invRoot 1 : EReal) := hN 1
  have n2 : N (4 * g + 2) = (invRoot 2 : EReal) := hN 2
  have n3 : N (4 * g + 3) = (invRoot 3 : EReal) := hN 3
  rw [hN j, Fin.sum_univ_six, Fin.sum_univ_four]
  have c (x : EReal) (a b r : ℝ) (h : a * b = r) : x * ((a : EReal) * (b : EReal)) = (r : EReal) * x := by
    rw [← EReal.coe_mul, h, mul_comm]
  have cc (x : EReal) : x * ((invRoot 0 : EReal) * (invRoot 0 : EReal)) = wt 0 0 * x := c _ _ _ _ invRoot_centre
  have cl (x : EReal) (i : Fin 4) (h : i ≠ 0) : x * ((invRoot 0 : EReal) * (invRoot i : EReal)) = wt i 0 * x :=
    c _ _ _ _ (invRoot_centre_leaf h)
  have lc (x : EReal) (i : Fin 4) (h : i ≠ 0) : x * ((invRoot i : EReal) * (invRoot 0 : EReal)) = wt 0 i * x :=
    c _ _ _ _ (invRoot_leaf_centre h)
  have ll (x : EReal) (i : Fin 4) (h : i ≠ 0) : x * ((invRoot i : EReal) * (invRoot i : EReal)) = wt i i * x :=
    c _ _ _ _ (invRoot_leaf h)
  have z (i k : Fin 4) (h : i ≠ 0 ∧ k ≠ 0 ∧ k ≠ i) (x : EReal) : wt i k * x = 0 := by
    unfold wt wtR
    rw [if_neg h.1, if_neg h.2.1, if_neg h.2.2, EReal.coe_zero, zero_mul]
  have ne1 : (1 : Fin 4) ≠ 0 := by decide
  have ne2 : (2 : Fin 4) ≠ 0 := by decide
  have ne3 : (3 : Fin 4) ≠ 0 := by decide
  fin_cases j <;> simp [spokeDst, spokeSrc, Nat.add_comm _ (4 * g), n0, n1, n2, n3]
  · rw [lc _ _ ne1, lc _ _ ne2, lc _ _ ne3, cc]; abel
  · rw [cl _ _ ne1, ll _ _ ne1, z 1 2 (by decide), z 1 3 (by decide)]; abel
  · rw [cl _ _ ne2, ll _ _ ne2, z 2 1 (by decide), z 2 3 (by decide)]; abel
  · rw [cl _ _ ne3, ll _ _ ne3, z 3 1 (by decide), z 3 2 (by decide)]; abel

/-! ## The function both programs compute -/

/-- One layer on one star: every node's row through the weights `W`, the star's nodes mixed, the bias added, rectified. -/
def layer {K : ℕ} (x : Fin 4 → Fin K → EReal) (W : Fin K → Fin 64 → EReal) (b : Fin 64 → EReal) (j : Fin 4) (l : Fin 64) :
    EReal :=
  leaky ((∑ i : Fin 4, wt j i * ∑ k : Fin K, x i k * W k l) + b l)

/-- The dense head at one node, rectified. -/
def head (h : Fin 64 → EReal) (W : Fin 64 → Fin 256 → EReal) (b : Fin 256 → EReal) (o : Fin 256) : EReal :=
  leaky ((∑ k : Fin 64, h k * W k o) + b o)

/-- The features of a star's nodes: zero at the centre, the twelve numbers of the state in four per leaf. -/
def feature (s : Fin 12 → EReal) (i : Fin 4) (k : Fin 4) : EReal :=
  if h : i = 0 then 0 else s ⟨4 * (i.val - 1) + k.val, by have := i.isLt; have := k.isLt; omega⟩

/-- The result at one star and one output channel: two layers, the head at each of the four nodes, and their mean. -/
def result (s : Fin 12 → EReal) (W1 : Fin 4 → Fin 64 → EReal) (b1 : Fin 64 → EReal) (W2 : Fin 64 → Fin 64 → EReal)
    (b2 : Fin 64 → EReal) (W3 : Fin 64 → Fin 256 → EReal) (b3 : Fin 256 → EReal) (o : Fin 256) : EReal :=
  (∑ j : Fin 4, head (layer (layer (feature s) W1 b1) W2 b2 j) W3 b3 o) * ((1 / 4 : ℝ) : EReal)

end Cert.Star

end
-- ==== Proof.KernelHost.lean ====
/- What the kernel's windows stage, at an index: the table of weights, its products with the two layers' weights, and
   the tiled biases. -/
module

public import proofs.«01_k».proof.Proof.Maths
public import proofs.«01_k».proof.Proof.Gen.KernelIdeal.Value
public import Idealize.ShloMosaic.Lib.Pointwise
public import Idealize.ShloMosaic.Lib.Tactic.CleanTypes

@[expose] public section

set_option maxRecDepth 16384

noncomputable section

open Idealize.ShloMosaic Idealize.ShloMosaic.TcCoe Idealize.ShloMosaic.Tactic Idealize.SL.Sem

namespace Cert.KernelIdeal.Host

open Cert.KernelIdeal Cert.KernelIdeal.Gen Cert.Star

variable (m : (ℓ : Loc nD τ sig) → Buf (Elt Ideal) ℓ) (c : Dev nD)

/-- The table of weights as the kernel makes it: the root's half where the mask is set, the listed weight elsewhere. -/
abbrev table : FVec Ideal S4x4 .f32 :=
  select (fun i => lit0 (S4x4.rowMajor i))
    (broadcastInDim S4x4 ![] bcast_S_S4x4
      (Host.divf (constant (F := Ideal) S_ .f32 0x3F000000#32) (Host.sqrt (constant (F := Ideal) S_ .f32 0x40000000#32))))
    (fun i => FloatOps.ofBits .f32 (lit1 (S4x4.rowMajor i)))

/-- The mask is set between the centre and a leaf, and nowhere else. -/
theorem mask_at (j i : Fin 4) :
    lit0 (S4x4.rowMajor (ix2 j i)) = if j = 0 then (if i = 0 then 0#1 else 1#1) else if i = 0 then 1#1 else 0#1 := by
  fin_cases j <;> fin_cases i <;> rfl

/-- The listed words, where the mask is not set: a quarter at the centre, one half at a leaf, zero between two leaves. -/
theorem words_at (j i : Fin 4) (h : (j = 0) ↔ (i = 0)) :
    lit1 (S4x4.rowMajor (ix2 j i)) = if j = 0 then 0x3E800000#32 else if i = j then 0x3F000000#32 else 0x00000000#32 := by
  fin_cases j <;> fin_cases i <;> first | rfl | exact absurd h (by decide)

/-- The word of one quarter. -/
theorem quarter_word : Ideal.ofBits .f32 0x3E800000#32 = ((1 / 4 : ℝ) : EReal) := by
  simp [Ideal.ofBits, Ideal.ieee, -EReal.coe_mul]
  norm_num

/-- The word of one half. -/
theorem half_word : Ideal.ofBits .f32 0x3F000000#32 = ((1 / 2 : ℝ) : EReal) := by
  simp [Ideal.ofBits, Ideal.ieee, -EReal.coe_mul]
  norm_num

/-- The word of two. -/
theorem two_word : Ideal.ofBits .f32 0x40000000#32 = ((2 : ℝ) : EReal) := by
  simp [Ideal.ofBits, Ideal.ieee, -EReal.coe_mul]
  norm_num

/-- One half over the root of two, as the kernel takes it. -/
theorem half_over_root :
    Ideal.div (Ideal.ofBits .f32 0x3F000000#32) (Ideal.sqrt (Ideal.ofBits .f32 0x40000000#32))
      = ((1 / 2 / Real.sqrt 2 : ℝ) : EReal) := by
  have h2 : Real.sqrt 2 ≠ 0 := by positivity
  rw [half_word, two_word, Ideal.sqrt_coe, if_neg (by norm_num), Ideal.div_coe h2, ← EReal.coe_mul]
  congr 1
  ring

/-- The table holds the star's weights. -/
theorem table_at (j i : Fin 4) : table (ix2 j i) = wt j i := by
  unfold table
  pointwise
  rw [mask_at, half_over_root]
  unfold wt wtR
  by_cases hj : j = 0 <;> by_cases hi : i = 0
  · simp only [hj, hi, if_true]
    rw [words_at 0 0 Iff.rfl, if_pos rfl, quarter_word]
    rfl
  · simp only [hj, hi, if_true, if_false]
    rfl
  · simp only [hj, hi, if_true, if_false]
    rfl
  · simp only [hj, hi, if_false]
    rw [words_at j i (by simp [hj, hi]), if_neg hj]
    show Ideal.ofBits .f32 (if i = j then 0x3F000000#32 else 0x00000000#32 : BitVec 32) = _
    split_ifs
    · rw [half_word]
    · rw [Ideal.ofBits_zero_f32, EReal.coe_zero]

/-! ## The windows' arrays, as terms of the arguments -/

/-- The first layer's weights, every pair of nodes one tile: the table's entry times the layer's weights. -/
abbrev tiles1 (T : FVec Ideal S4x4 .f32) (W : FVec Ideal S4x64 .f32) : FVec Ideal S12x256 .f32 :=
  shapeCast _ (mulf
    (broadcastInDim S3x4x4x64 ![0, 1, 2, 3] bcast_S3x1x4x1_S3x4x4x64_0_1_2_3
      (broadcastInDim S3x1x4x1 ![0, 2] bcast_S3x4_S3x1x4x1_0_2
        (extractStridedSlice S3x4 ![1, 0] (transpose S4x4 [1, 0] T transposes_S4x4_S4x4_1_0) slices_S4x4_S3x4_1_0)))
    (broadcastInDim S3x4x4x64 ![0, 1, 2, 3] bcast_S1x4x1x64_S3x4x4x64_0_1_2_3
      (broadcastInDim S1x4x1x64 ![1, 3] bcast_S4x64_S1x4x1x64_1_3 W))) shapeCasts_S3x4x4x64_S12x256

/-- The second layer's weights in the same tiles. -/
abbrev tiles2 (T : FVec Ideal S4x4 .f32) (W : FVec Ideal S64x64 .f32) : FVec Ideal S256x256 .f32 :=
  shapeCast _ (mulf
    (broadcastInDim S4x64x4x64 ![0, 1, 2, 3] bcast_S4x1x4x1_S4x64x4x64_0_1_2_3
      (broadcastInDim S4x1x4x1 ![0, 2] bcast_S4x4_S4x1x4x1_0_2 (transpose S4x4 [1, 0] T transposes_S4x4_S4x4_1_0)))
    (broadcastInDim S4x64x4x64 ![0, 1, 2, 3] bcast_S1x64x1x64_S4x64x4x64_0_1_2_3
      (broadcastInDim S1x64x1x64 ![1, 3] bcast_S64x64_S1x64x1x64_1_3 W))) shapeCasts_S4x64x4x64_S256x256

/-- A bias once per node. -/
abbrev tiled (b : FVec Ideal S64 .f32) : FVec Ideal S1x256 .f32 :=
  shapeCast _ (shapeCast S256 (broadcastInDim S4x64 ![0, 1] bcast_S1x64_S4x64_0_1 (shapeCast S1x64 b shapeCasts_S64_S1x64))
    shapeCasts_S4x64_S256) shapeCasts_S256_S1x256

/-- The first layer's tiles at row `4·i + k` of leaf `i`'s feature `k` and column `64·j + l` of node `j`'s channel `l`. -/
theorem tiles1_at (T : FVec Ideal S4x4 .f32) (W : FVec Ideal S4x64 .f32) (p : Fin 12) (q : Fin 256) :
    tiles1 T W (ix2 p q) = T (ix2 ⟨q.val / 64, by have := q.isLt; omega⟩ ⟨1 + p.val / 4, by have := p.isLt; omega⟩)
      * W (ix2 ⟨p.val % 4, Nat.mod_lt _ (by norm_num)⟩ ⟨q.val % 64, Nat.mod_lt _ (by norm_num)⟩) := by
  unfold tiles1
  pointwise

/-- The second layer's tiles at row `64·i + k` of node `i`'s channel `k` and column `64·j + l` of node `j`'s channel `l`. -/
theorem tiles2_at (T : FVec Ideal S4x4 .f32) (W : FVec Ideal S64x64 .f32) (p q : Fin 256) :
    tiles2 T W (ix2 p q) = T (ix2 ⟨q.val / 64, by have := q.isLt; omega⟩ ⟨p.val / 64, by have := p.isLt; omega⟩)
      * W (ix2 ⟨p.val % 64, Nat.mod_lt _ (by norm_num)⟩ ⟨q.val % 64, Nat.mod_lt _ (by norm_num)⟩) := by
  unfold tiles2
  pointwise

/-- The tiled bias at column `64·j + l` is the bias at `l`. -/
theorem tiled_at (b : FVec Ideal S64 .f32) (q : Fin 256) :
    tiled b (ix2 0 q) = b (ix1 ⟨q.val % 64, Nat.mod_lt _ (by norm_num)⟩) := by
  unfold tiled
  pointwise

/-- The head's bias as one row, at a column. -/
theorem row_at (b : FVec Ideal S256 .f32) (q : Fin 256) :
    shapeCast S1x256 b shapeCasts_S256_S1x256 (ix2 0 q) = b (ix1 q) := by
  pointwise

/-- What the host code leaves for the windows: both layers' spread weights, both tiled biases, the head's bias as a row. -/
theorem staged :
    V m c main_v5 = tiles1 table (m ((c : Thread nD τ).loc main_arg1))
      ∧ V m c main_v7 = tiles2 table (m ((c : Thread nD τ).loc main_arg3))
      ∧ V m c main_v11 = tiled (m ((c : Thread nD τ).loc main_arg2))
      ∧ V m c main_v15 = tiled (m ((c : Thread nD τ).loc main_arg4))
      ∧ V m c main_v16 = shapeCast S1x256 (m ((c : Thread nD τ).loc main_arg6) : FVec Ideal S256 .f32) shapeCasts_S256_S1x256 := by
  refine ⟨?_, ?_, ?_, ?_, ?_⟩ <;>
  · unfold V
    simp only [hostOps0, hostOps0_1, hostOps0_2, hostOps0_3, hostOps0_4, hostOps0_5, hostOps0_6, List.flatten_cons,
      List.flatten_nil, List.append_nil, List.cons_append, List.nil_append, StableHlo.TRef.binary, StableHlo.TRef.nullary,
      StableHlo.TRef.ternary, StableHlo.TRef.unary, StableHlo.TRef.toBuf, StableHlo.TRef.ofBuf, cast_eq]
    after_results_simp
    rfl

end Cert.KernelIdeal.Host

end
-- ==== Proof.Layers.lean ====
/- A layer over one star as the kernel takes it: one sum over all nodes' channels at once, against the weights already
   spread over the star, is the layer. -/
module

public import proofs.«01_k».proof.Proof.Maths

@[expose] public section

set_option maxRecDepth 16384

noncomputable section

open Idealize.ShloMosaic

namespace Cert.Star

/-- A node's weight taken into the node's own sum of products. -/
theorem weight_into (j i : Fin 4) {K : ℕ} (x w : Fin K → EReal) :
    wt j i * ∑ k : Fin K, x k * w k = ∑ k : Fin K, x k * (wt j i * w k) := by
  unfold wt
  rw [weight_sum _ (wtR_nonneg j i)]
  exact Finset.sum_congr rfl fun k _ => mul_left_comm _ _ _

/-- A sum over `a · b` numbers in `a` groups of `b`, of a function of the group and the place in it. -/
theorem sum_divMod (a b : ℕ) (hb : 0 < b) (f : ℕ → ℕ → EReal) :
    ∑ p : Fin (a * b), f (p.val / b) (p.val % b) = ∑ g : Fin a, ∑ t : Fin b, f g.val t.val := by
  rw [sum_groups a b 0 (a * b) rfl fun n => f (n / b) (n % b)]
  simp only [Finset.univ_eq_empty, Finset.sum_empty, add_zero]
  refine Finset.sum_congr rfl fun g _ => Finset.sum_congr rfl fun t _ => ?_
  rw [Nat.mul_add_div hb, Nat.div_eq_of_lt t.isLt, add_zero, Nat.mul_add_mod, Nat.mod_eq_of_lt t.isLt]

/-- The first layer: the state's twelve numbers against the spread weights; the centre's features are zero. -/
theorem layer_of_state (s : Fin 12 → EReal) (W : Fin 4 → Fin 64 → EReal) (b : Fin 64 → EReal) (j : Fin 4) (l : Fin 64) :
    leaky ((∑ p : Fin 12, s p * (wt j ⟨1 + p.val / 4, by have := p.isLt; omega⟩ * W ⟨p.val % 4, Nat.mod_lt _ (by norm_num)⟩ l)) + b l)
      = layer (feature s) W b j l := by
  unfold layer
  congr 2
  rw [Fin.sum_univ_succ (n := 3) fun i => wt j i * ∑ k : Fin 4, feature s i k * W k l]
  have h0 : wt j 0 * ∑ k : Fin 4, feature s 0 k * W k l = 0 := by
    simp [feature]
  rw [h0, zero_add]
  have h := sum_divMod 3 4 (by norm_num) fun g t =>
    if hg : g < 3 then if ht : t < 4 then
      s ⟨4 * g + t, by omega⟩ * (wt j ⟨1 + g, by omega⟩ * W ⟨t, ht⟩ l) else 0 else 0
  calc _ = _ := Finset.sum_congr rfl fun p _ => ?_
    _ = _ := h
    _ = _ := Finset.sum_congr rfl fun i _ => ?_
  · have hp : p.val / 4 < 3 := by have := p.isLt; omega
    have ht : p.val % 4 < 4 := Nat.mod_lt _ (by norm_num)
    rw [dif_pos hp, dif_pos ht]
    congr 2
    exact Fin.ext (Nat.div_add_mod p.val 4).symm
  · rw [weight_into]
    refine Finset.sum_congr rfl fun t _ => ?_
    rw [dif_pos i.isLt, dif_pos t.isLt]
    have hf : feature s i.succ t = s ⟨4 * i.val + t.val, by have := i.isLt; have := t.isLt; omega⟩ := by
      unfold feature
      rw [dif_neg (Fin.succ_ne_zero i)]
      rfl
    have hi : (⟨1 + i.val, by have := i.isLt; omega⟩ : Fin 4) = i.succ := Fin.ext (Nat.add_comm 1 i.val)
    rw [hf, hi]

/-- The second layer: all four nodes' channels against the spread weights. -/
theorem layer_of_rows (h : Fin 4 → Fin 64 → EReal) (W : Fin 64 → Fin 64 → EReal) (b : Fin 64 → EReal) (j : Fin 4) (l : Fin 64) :
    leaky ((∑ p : Fin 256, h ⟨p.val / 64, by have := p.isLt; omega⟩ ⟨p.val % 64, Nat.mod_lt _ (by norm_num)⟩
        * (wt j ⟨p.val / 64, by have := p.isLt; omega⟩ * W ⟨p.val % 64, Nat.mod_lt _ (by norm_num)⟩ l)) + b l)
      = layer h W b j l := by
  unfold layer
  congr 2
  have hs := sum_divMod 4 64 (by norm_num) fun g t =>
    if hg : g < 4 then if ht : t < 64 then h ⟨g, hg⟩ ⟨t, ht⟩ * (wt j ⟨g, hg⟩ * W ⟨t, ht⟩ l) else 0 else 0
  calc _ = _ := Finset.sum_congr rfl fun p _ => ?_
    _ = _ := hs
    _ = _ := Finset.sum_congr rfl fun i _ => ?_
  · have hp : p.val / 64 < 4 := by have := p.isLt; omega
    have ht : p.val % 64 < 64 := Nat.mod_lt _ (by norm_num)
    rw [dif_pos hp, dif_pos ht]
  · rw [weight_into]
    refine Finset.sum_congr rfl fun t _ => ?_
    rw [dif_pos i.isLt, dif_pos t.isLt]

end Cert.Star

end
-- ==== Proof.KernelBlock.lean ====
/- What one grid point computes, at an index of its block of the result. -/
module

public import proofs.«01_k».proof.Proof.KernelHost
public import proofs.«01_k».proof.Proof.Layers

@[expose] public section

set_option maxRecDepth 16384

noncomputable section

open Idealize.ShloMosaic Idealize.ShloMosaic.TcCoe Idealize.ShloMosaic.Tactic Idealize.SL.Sem

namespace Cert.KernelIdeal.Block

open Cert.KernelIdeal Cert.KernelIdeal.Gen Cert.Star

variable (s : Vec Ideal S5000x12 .f32) (a1 : Vec Ideal S12x256 .f32) (b1 : Vec Ideal S1x256 .f32)
  (a2 : Vec Ideal S256x256 .f32) (b2 : Vec Ideal S1x256 .f32) (w3 : Vec Ideal S64x256 .f32) (b3 : Vec Ideal S1x256 .f32)

/-- Both layers of a block, at row `r` and column `q`. -/
theorem layers_at (r : Fin 5000) (q : Fin 256) : k0_pay2 s a1 b1 a2 b2 (ix2 r q)
    = leaky ((∑ p : Fin 256, leaky ((∑ k : Fin 12, s (ix2 r k) * a1 (ix2 k p)) + b1 (ix2 0 p)) * a2 (ix2 p q)) + b2 (ix2 0 q)) := by
  unfold k0_pay2
  pointwise
  rfl

/-- The head of one node of a block: 64 of the columns of `h`, from column `64 · j`. -/
def headAt (h : FVec Ideal S5000x256 .f32) (j : Fin 4) (r : Fin 5000) (o : Fin 256) : EReal :=
  leaky ((∑ k : Fin 64, h (ix2 r ⟨64 * j.val + k.val, by have := j.isLt; have := k.isLt; omega⟩) * w3 (ix2 k o)) + b3 (ix2 0 o))

/-- The head of the first node reads the first 64 columns. -/
theorem headAt_zero (h : FVec Ideal S5000x256 .f32) (r : Fin 5000) (o : Fin 256) : headAt w3 b3 h 0 r o
    = leaky ((∑ k : Fin 64, h (ix2 r ⟨k.val, by have := k.isLt; omega⟩) * w3 (ix2 k o)) + b3 (ix2 0 o)) := by
  unfold headAt
  refine congrArg (fun x => leaky (x + _)) (Finset.sum_congr rfl fun k _ => ?_)
  refine congrArg (fun q => h (ix2 r q) * _) (Fin.ext ?_)
  show 64 * 0 + k.val = k.val
  omega

/-- The first node's head. -/
theorem head0_at (r : Fin 5000) (o : Fin 256) :
    k0_pay4 s a1 b1 a2 b2 w3 b3 (ix2 r o) = headAt w3 b3 (k0_pay2 s a1 b1 a2 b2) 0 r o := by
  rw [headAt_zero]
  unfold k0_pay4 k0_pay3
  generalize k0_pay2 s a1 b1 a2 b2 = h
  pointwise
  rfl

/-- The second node's head, whose rectifier is taken in two halves. -/
theorem head1_at (r : Fin 5000) (o : Fin 256) :
    max (k0_pay5 s a1 b1 a2 b2 w3 b3 (ix2 r o)) (k0_pay6 s a1 b1 a2 b2 w3 b3 (ix2 r o))
      = headAt w3 b3 (k0_pay2 s a1 b1 a2 b2) 1 r o := by
  unfold k0_pay6 k0_pay5 k0_pay3 headAt
  generalize k0_pay2 s a1 b1 a2 b2 = h
  pointwise
  rfl

/-- The stored value: a quarter of the four nodes' heads. -/
theorem stored_at (r : Fin 5000) (o : Fin 256) :
    k0_pay1 (F := Ideal) (k0_pay2 s a1 b1 a2 b2) w3 (k0_pay3 b3) (k0_pay4 s a1 b1 a2 b2 w3 b3)
        (k0_pay5 s a1 b1 a2 b2 w3 b3) (k0_pay6 s a1 b1 a2 b2 w3 b3) (ix2 r o)
      = ((1 / 4 : ℝ) : EReal) * ∑ j : Fin 4, headAt w3 b3 (k0_pay2 s a1 b1 a2 b2) j r o := by
  rw [Fin.sum_univ_four, ← head0_at, ← head1_at, ← Host.quarter_word]
  unfold k0_pay1 k0_pay3 headAt
  generalize k0_pay2 s a1 b1 a2 b2 = h
  generalize k0_pay4 s a1 b1 a2 b2 w3 b3 = h4
  generalize k0_pay5 s a1 b1 a2 b2 w3 b3 = h5
  generalize k0_pay6 s a1 b1 a2 b2 w3 b3 = h6
  pointwise
  rfl

/-- A block whose operands are one star's state by row, the spread weights and the tiled biases: both layers' value at
    channel `l` of node `j` is the second layer of the first layer of the features. -/
theorem layers_eq {S : Fin 12 → EReal} {W1 : Fin 4 → Fin 64 → EReal} {B1 : Fin 64 → EReal} {W2 : Fin 64 → Fin 64 → EReal}
    {B2 : Fin 64 → EReal} (r : Fin 5000) (hs : ∀ k, s (ix2 r k) = S k)
    (ha1 : ∀ p q, a1 (ix2 p q) = wt ⟨q.val / 64, by have := q.isLt; omega⟩ ⟨1 + p.val / 4, by have := p.isLt; omega⟩
      * W1 ⟨p.val % 4, Nat.mod_lt _ (by norm_num)⟩ ⟨q.val % 64, Nat.mod_lt _ (by norm_num)⟩)
    (hb1 : ∀ q, b1 (ix2 0 q) = B1 ⟨q.val % 64, Nat.mod_lt _ (by norm_num)⟩)
    (ha2 : ∀ p q, a2 (ix2 p q) = wt ⟨q.val / 64, by have := q.isLt; omega⟩ ⟨p.val / 64, by have := p.isLt; omega⟩
      * W2 ⟨p.val % 64, Nat.mod_lt _ (by norm_num)⟩ ⟨q.val % 64, Nat.mod_lt _ (by norm_num)⟩)
    (hb2 : ∀ q, b2 (ix2 0 q) = B2 ⟨q.val % 64, Nat.mod_lt _ (by norm_num)⟩) (q : Fin 256) :
    k0_pay2 s a1 b1 a2 b2 (ix2 r q)
      = layer (layer (feature S) W1 B1) W2 B2 ⟨q.val / 64, by have := q.isLt; omega⟩ ⟨q.val % 64, Nat.mod_lt _ (by norm_num)⟩ := by
  rw [layers_at, ← layer_of_rows, hb2]
  refine congrArg (fun x => leaky (x + _)) (Finset.sum_congr rfl fun p _ => ?_)
  rw [ha2, ← layer_of_state, hb1]
  refine congrArg (fun x => leaky (x + _) * _) (Finset.sum_congr rfl fun k _ => ?_)
  rw [hs, ha1]

/-- So the stored value is the result of the star. -/
theorem stored_eq {S : Fin 12 → EReal} {W1 : Fin 4 → Fin 64 → EReal} {B1 : Fin 64 → EReal} {W2 : Fin 64 → Fin 64 → EReal}
    {B2 : Fin 64 → EReal} {W3 : Fin 64 → Fin 256 → EReal} {B3 : Fin 256 → EReal} (r : Fin 5000) (hs : ∀ k, s (ix2 r k) = S k)
    (ha1 : ∀ p q, a1 (ix2 p q) = wt ⟨q.val / 64, by have := q.isLt; omega⟩ ⟨1 + p.val / 4, by have := p.isLt; omega⟩
      * W1 ⟨p.val % 4, Nat.mod_lt _ (by norm_num)⟩ ⟨q.val % 64, Nat.mod_lt _ (by norm_num)⟩)
    (hb1 : ∀ q, b1 (ix2 0 q) = B1 ⟨q.val % 64, Nat.mod_lt _ (by norm_num)⟩)
    (ha2 : ∀ p q, a2 (ix2 p q) = wt ⟨q.val / 64, by have := q.isLt; omega⟩ ⟨p.val / 64, by have := p.isLt; omega⟩
      * W2 ⟨p.val % 64, Nat.mod_lt _ (by norm_num)⟩ ⟨q.val % 64, Nat.mod_lt _ (by norm_num)⟩)
    (hb2 : ∀ q, b2 (ix2 0 q) = B2 ⟨q.val % 64, Nat.mod_lt _ (by norm_num)⟩)
    (hw3 : ∀ k q, w3 (ix2 k q) = W3 k q) (hb3 : ∀ q, b3 (ix2 0 q) = B3 q) (o : Fin 256) :
    k0_pay1 (F := Ideal) (k0_pay2 s a1 b1 a2 b2) w3 (k0_pay3 b3) (k0_pay4 s a1 b1 a2 b2 w3 b3)
        (k0_pay5 s a1 b1 a2 b2 w3 b3) (k0_pay6 s a1 b1 a2 b2 w3 b3) (ix2 r o)
      = result S W1 B1 W2 B2 W3 B3 o := by
  rw [stored_at, mul_comm]
  unfold result headAt head
  refine congrArg (· * _) (Finset.sum_congr rfl fun j _ => ?_)
  rw [hb3]
  refine congrArg (fun x => leaky (x + _)) (Finset.sum_congr rfl fun k _ => ?_)
  rw [layers_eq s a1 b1 a2 b2 r hs ha1 hb1 ha2 hb2, hw3]
  have e1 : (⟨(64 * j.val + k.val) / 64, by have := j.isLt; have := k.isLt; omega⟩ : Fin 4) = j :=
    Fin.ext (by show (64 * j.val + k.val) / 64 = j.val; have := k.isLt; omega)
  have e2 : (⟨(64 * j.val + k.val) % 64, Nat.mod_lt _ (by norm_num)⟩ : Fin 64) = k :=
    Fin.ext (by show (64 * j.val + k.val) % 64 = k.val; have := k.isLt; omega)
  rw [e1, e2]

end Cert.KernelIdeal.Block

end
-- ==== Proof.KernelResult.lean ====
/- The kernel's result array after its run: every star's result, at every output channel. -/
module

public import proofs.«01_k».proof.Proof.KernelBlock
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Stars

open Cert.KernelIdeal Cert.KernelIdeal.Gen Cert.KernelIdeal.Host Cert.KernelIdeal.Block Cert.Star

variable (m : (ℓ : Loc nD τ sig) → Buf (Elt Ideal) ℓ) (c : Dev nD)

/-- The result of every star: what the result array is shown to hold. -/
def whole : S25000x256.Idx → EReal := fun i =>
  result (fun p => (m ((c : Thread nD τ).loc main_arg0) : S25000x12.Idx → EReal) (ix2 (i 0) p))
    (fun k l => (m ((c : Thread nD τ).loc main_arg1) : S4x64.Idx → EReal) (ix2 k l))
    (fun l => (m ((c : Thread nD τ).loc main_arg2) : S64.Idx → EReal) (ix1 l))
    (fun k l => (m ((c : Thread nD τ).loc main_arg3) : S64x64.Idx → EReal) (ix2 k l))
    (fun l => (m ((c : Thread nD τ).loc main_arg4) : S64.Idx → EReal) (ix1 l))
    (fun k o => (m ((c : Thread nD τ).loc main_arg5) : S64x256.Idx → EReal) (ix2 k o))
    (fun o => (m ((c : Thread nD τ).loc main_arg6) : S256.Idx → EReal) (ix1 o)) (i 1)

/-- Two zero offsets. -/
theorem zeros2 : (![0, 0] : Fin 2 → Nat) = fun _ => 0 := funext fun a => by fin_cases a <;> rfl

/-! ## Where the windows' blocks lie -/

/-- The state's block at point `t` begins at row `5000 · t`, -/
theorem index0 : ∀ t : Fin cfg0.N, win0_0.index t = ![t.val, 0] :=
  (by decide +kernel : ∀ t : Fin grid0.N, win0_0.index t = ![t.val, 0])

/-- and so does the result's. -/
theorem index7 : ∀ t : Fin cfg0.N, win0_7.index t = ![t.val, 0] :=
  (by decide +kernel : ∀ t : Fin grid0.N, win0_7.index t = ![t.val, 0])

/-- The other windows' blocks are the same at every point. -/
theorem index_fixed (t : Fin cfg0.N) : win0_1.index t = ![0, 0]
      ∧ win0_2.index t = ![0, 0]
      ∧ win0_3.index t = ![0, 0]
      ∧ win0_4.index t = ![0, 0]
      ∧ win0_5.index t = ![0, 0]
      ∧ win0_6.index t = ![0, 0] :=
  (by decide +kernel : ∀ t : Fin grid0.N, win0_1.index t = ![0, 0]
      ∧ win0_2.index t = ![0, 0]
      ∧ win0_3.index t = ![0, 0]
      ∧ win0_4.index t = ![0, 0]
      ∧ win0_5.index t = ![0, 0]
      ∧ win0_6.index t = ![0, 0]) t

/-! ## The windows' blocks at an index -/

/-- Row `r` of the state's block at point `t` is row `5000 · t + r` of the state. -/
theorem block0 (t : Fin cfg0.N) (r : Fin 5000) (g : Fin 25000) (hg : g.val = t.val * 5000 + r.val) (k : Fin 12) :
    View.ld (iblk m c 0 t : Vec Ideal S5000x12 .f32) r0_0 (ix2 r k)
      = (m ((c : Thread nD τ).loc main_arg0) : S25000x12.Idx → EReal) (ix2 g k) := by
  refine (congrFun (View.ld_unit_zero zeros2 _ _) _).trans ?_
  blk_simp [iblk]
  refine (congrFun (V_main_arg0 m c) _).trans (congrArg _ ?_)
  blk_ext [index0, hg]

/-- The first layer's spread weights. -/
theorem block1 (t : Fin cfg0.N) (p : Fin 12) (q : Fin 256) :
    View.ld (iblk m c 1 t : Vec Ideal S12x256 .f32) r0_1 (ix2 p q) = wt ⟨q.val / 64, by have := q.isLt; omega⟩ ⟨1 + p.val / 4, by have := p.isLt; omega⟩
      * (m ((c : Thread nD τ).loc main_arg1) : S4x64.Idx → EReal)
          (ix2 ⟨p.val % 4, Nat.mod_lt _ (by norm_num)⟩ ⟨q.val % 64, Nat.mod_lt _ (by norm_num)⟩) := by
  refine (congrFun (View.ld_unit_zero zeros2 _ _) _).trans ?_
  have e : ((cfg0.win 1).blk t).view.emb (ix2 p q) = ix2 p q := by
    blk_ext [(index_fixed t).1]
  blk_simp [iblk]
  rw [e]
  exact (congrFun (staged m c).1 _).trans ((tiles1_at _ _ p q).trans (by rw [table_at]))

/-- The second layer's spread weights. -/
theorem block2 (t : Fin cfg0.N) (p q : Fin 256) :
    View.ld (iblk m c 2 t : Vec Ideal S256x256 .f32) r0_3 (ix2 p q) = wt ⟨q.val / 64, by have := q.isLt; omega⟩ ⟨p.val / 64, by have := p.isLt; omega⟩
      * (m ((c : Thread nD τ).loc main_arg3) : S64x64.Idx → EReal)
          (ix2 ⟨p.val % 64, Nat.mod_lt _ (by norm_num)⟩ ⟨q.val % 64, Nat.mod_lt _ (by norm_num)⟩) := by
  refine (congrFun (View.ld_unit_zero zeros2 _ _) _).trans ?_
  have e : ((cfg0.win 2).blk t).view.emb (ix2 p q) = ix2 p q := by
    blk_ext [(index_fixed t).2.1]
  blk_simp [iblk]
  rw [e]
  exact (congrFun (staged m c).2.1 _).trans ((tiles2_at _ _ p q).trans (by rw [table_at]))

/-- The head's weights. -/
theorem block3 (t : Fin cfg0.N) (p : Fin 64) (q : Fin 256) :
    View.ld (iblk m c 3 t : Vec Ideal S64x256 .f32) r0_4 (ix2 p q) = (m ((c : Thread nD τ).loc main_arg5) : S64x256.Idx → EReal) (ix2 p q) := by
  refine (congrFun (View.ld_unit_zero zeros2 _ _) _).trans ?_
  have e : ((cfg0.win 3).blk t).view.emb (ix2 p q) = ix2 p q := by
    blk_ext [(index_fixed t).2.2.1]
  blk_simp [iblk]
  rw [e]
  exact congrFun (V_main_arg5 m c) _

/-- The first layer's bias, once per node. -/
theorem block4 (t : Fin cfg0.N) (q : Fin 256) :
    View.ld (iblk m c 4 t : Vec Ideal S1x256 .f32) r0_2 (ix2 0 q) = (m ((c : Thread nD τ).loc main_arg2) : S64.Idx → EReal) (ix1 ⟨q.val % 64, Nat.mod_lt _ (by norm_num)⟩) := by
  refine (congrFun (View.ld_unit_zero zeros2 _ _) _).trans ?_
  have e : ((cfg0.win 4).blk t).view.emb (ix2 0 q) = ix2 0 q := by
    blk_ext [(index_fixed t).2.2.2.1]
  blk_simp [iblk]
  rw [e]
  exact (congrFun (staged m c).2.2.1 _).trans (tiled_at _ q)

/-- The second layer's bias, once per node. -/
theorem block5 (t : Fin cfg0.N) (q : Fin 256) :
    View.ld (iblk m c 5 t : Vec Ideal S1x256 .f32) r0_2 (ix2 0 q) = (m ((c : Thread nD τ).loc main_arg4) : S64.Idx → EReal) (ix1 ⟨q.val % 64, Nat.mod_lt _ (by norm_num)⟩) := by
  refine (congrFun (View.ld_unit_zero zeros2 _ _) _).trans ?_
  have e : ((cfg0.win 5).blk t).view.emb (ix2 0 q) = ix2 0 q := by
    blk_ext [(index_fixed t).2.2.2.2.1]
  blk_simp [iblk]
  rw [e]
  exact (congrFun (staged m c).2.2.2.1 _).trans (tiled_at _ q)

/-- The head's bias. -/
theorem block6 (t : Fin cfg0.N) (q : Fin 256) :
    View.ld (iblk m c 6 t : Vec Ideal S1x256 .f32) r0_2 (ix2 0 q) = (m ((c : Thread nD τ).loc main_arg6) : S256.Idx → EReal) (ix1 q) := by
  refine (congrFun (View.ld_unit_zero zeros2 _ _) _).trans ?_
  have e : ((cfg0.win 6).blk t).view.emb (ix2 0 q) = ix2 0 q := by
    blk_ext [(index_fixed t).2.2.2.2.2]
  blk_simp [iblk]
  rw [e]
  exact (congrFun (staged m c).2.2.2.2 _).trans (row_at _ q)

/-! ## The array -/

/-- The result array ends holding every star's result: the five blocks cover it, and what a point stores at row `r` of
    its block is the result of the star of that row. -/
theorem final : (dats m 0 c).arrAt 7 cfg0.N = whole m c := by
  refine (dats m 0 c).arrAt_eq_of_covers 7 _ (by decide +kernel) fun t hf y => ?_
  blk_simp
  rw [after0_7]
  unfold out0_7
  rw [View.canon_unit_zero zeros2]
  have ht : t.val < 5 := lt_of_lt_of_eq t.isLt N_0
  have hr : (y 0 : Nat) < 5000 := (y 0).isLt
  have e : ((View.whole main_v17).slice (win0_7.rect t)).emb y
      = ix2 (⟨t.val * 5000 + (y 0 : Nat), by omega⟩ : Fin 25000) (y 1 : Fin 256) := by
    blk_ext [index7]
  refine Eq.trans (congrArg _ (?_ : y = ix2 (y 0 : Fin 5000) (y 1 : Fin 256)))
    (Eq.trans ?_ (congrArg (whole m c) e).symm)
  · funext a; fin_cases a <;> rfl
  exact stored_eq _ _ _ _ _ _ _ (y 0 : Fin 5000) (fun k => block0 m c t (y 0 : Fin 5000) _ rfl k) (block1 m c t)
    (block4 m c t) (block2 m c t) (block5 m c t) (block3 m c t) (block6 m c t) (y 1 : Fin 256)

/-- The run: the result array at every star's result, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v17) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Stars

end
-- ==== Proof.Segment.lean ====
/- Segment sums and row takes at an index: an accumulating scatter of rows (or of numbers) by a column of segment
   numbers, read at one element, is the sum of the updates whose segment number is that row. -/
module

public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.StableHlo

namespace Cert.Segment

/-- A word below `2 ^ 31`, read signed, is the number it was made from. -/
theorem toInt_word {n : ℕ} (h : n < 2 ^ 31) : (BitVec.ofNat 32 n).toInt = (n : ℤ) :=
  StableHlo.Predicate.toInt_ofNat_small n h

variable {N C E : ℕ}

/-- The scatter of `E` rows of `C` numbers into `N` rows, one row number each. -/
abbrev rowsDims (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The scatter of `E` numbers into a vector of `N`, one index each. -/
abbrev numsDims (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- Element `c'` of update row `e` lands at `(r, c)` exactly when the row's number is `r` and `c'` is `c`. -/
theorem rows_land (wf) (idx : IVec ⟨2, ![E, 1]⟩ 32) (e : Fin E) (c' : Fin C) (r : Fin N) (c : Fin C) :
    (rowsDims (N := N) wf).resultIdx? (ix2 e c') idx = some (ix2 r c) ↔ (idx (ix2 e 0)).toInt = (r.val : ℤ) ∧ c' = c := by
  have hs : (rowsDims (N := N) wf).siIdx (ix2 e c') ⟨0, Nat.one_pos⟩ = ix2 e (0 : Fin 1) := by
    funext b
    match b with
    | ⟨0, _⟩ => rfl
    | ⟨1, _⟩ => rfl
  have h0 : (rowsDims (N := N) wf).start (ix2 e c') idx 0 = (idx (ix2 e 0)).toInt :=
    congrArg (fun i => (idx i).toInt) hs
  have h1 : (rowsDims (N := N) wf).start (ix2 e c') idx 1 = 0 := rfl
  have w0 : (rowsDims (N := N) wf).window (ix2 e c') 0 = 0 := rfl
  have w1 : (rowsDims (N := N) wf).window (ix2 e c') 1 = c'.val := rfl
  rw [ix2_eq_valueIdx r c, Routing.resultIdx?_ix2, h0, h1, w0, w1]
  constructor
  · rintro ⟨a, b⟩; exact ⟨by omega, Fin.ext (by omega)⟩
  · rintro ⟨a, rfl⟩; exact ⟨by omega, by omega⟩

/-- Update `e` lands at `r` exactly when its index is `r`. -/
theorem nums_land (wf) (idx : IVec ⟨2, ![E, 1]⟩ 32) (e : Fin E) (r : Fin N) :
    (numsDims (N := N) wf).resultIdx? (ix1 e) idx = some (ix1 r) ↔ (idx (ix2 e 0)).toInt = (r.val : ℤ) := by
  have hs : (numsDims (N := N) wf).siIdx (ix1 e) ⟨0, Nat.one_pos⟩ = ix2 e (0 : Fin 1) := by
    funext b
    match b with
    | ⟨0, _⟩ => rfl
    | ⟨1, _⟩ => rfl
  have h0 : (numsDims (N := N) wf).start (ix1 e) idx 0 = (idx (ix2 e 0)).toInt :=
    congrArg (fun i => (idx i).toInt) hs
  have w0 : (numsDims (N := N) wf).window (ix1 e) 0 = 0 := rfl
  rw [ix1_eq_valueIdx r, Routing.resultIdx?_ix1, h0, w0]
  constructor <;> intro a <;> omega

/-- The segment sum of rows at `(r, c)`: what was there, and the updates' elements `c` of the rows numbered `r`. -/
theorem rows_sum (wf) (x : (⟨2, ![N, C]⟩ : Shape).Idx → EReal) (idx : IVec ⟨2, ![E, 1]⟩ 32)
    (upd : (⟨2, ![E, C]⟩ : Shape).Idx → EReal) (D : ℕ → ℕ) (hD : ∀ e : Fin E, D e.val < 2 ^ 31)
    (hidx : ∀ e : Fin E, idx (ix2 e 0) = BitVec.ofNat 32 (D e.val)) (r : Fin N) (c : Fin C) :
    Ideal.hostScatterAdd (rowsDims (N := N) wf) x idx upd (ix2 r c)
      = x (ix2 r c) + ∑ e : Fin E, if D e.val = r.val then upd (ix2 e c) else 0 := by
  unfold Ideal.hostScatterAdd
  congr 1
  rw [Finset.sum_filter, sum_idx2]
  refine Finset.sum_congr rfl fun e _ => ?_
  simp only [rows_land, hidx, toInt_word (hD e), Nat.cast_inj]
  by_cases h : D e.val = r.val
  · simp [h]
  · simp [h]

/-- The segment sum of numbers at `r`: what was there, and the updates numbered `r`. -/
theorem nums_sum (wf) (x : (⟨1, ![N]⟩ : Shape).Idx → EReal) (idx : IVec ⟨2, ![E, 1]⟩ 32)
    (upd : (⟨1, ![E]⟩ : Shape).Idx → EReal) (D : ℕ → ℕ) (hD : ∀ e : Fin E, D e.val < 2 ^ 31)
    (hidx : ∀ e : Fin E, idx (ix2 e 0) = BitVec.ofNat 32 (D e.val)) (r : Fin N) :
    Ideal.hostScatterAdd (numsDims (N := N) wf) x idx upd (ix1 r)
      = x (ix1 r) + ∑ e : Fin E, if D e.val = r.val then upd (ix1 e) else 0 := by
  unfold Ideal.hostScatterAdd
  congr 1
  rw [Finset.sum_filter, sum_idx1]
  refine Finset.sum_congr rfl fun e _ => ?_
  simp only [nums_land, hidx, toInt_word (hD e), Nat.cast_inj]

/-- jnp's wrap of an index leaves a word made from a number below `2 ^ 31` as it is. -/
theorem wrap_word {n : ℕ} (h : n < 2 ^ 31) (a : BitVec 32) :
    Scalar.select (IntOp.cmpi .slt (BitVec.ofNat 32 n) 0#32) a (BitVec.ofNat 32 n) = BitVec.ofNat 32 n :=
  Routing.wrap_of_lt _ a (by rw [BitVec.toNat_ofNat]; omega)

end Cert.Segment

end
-- ==== Proof.Reference.lean ====
/- The reference at an index: its edge words are the edges of the stars, its degrees and inverse roots those of a star,
   and each of its graph layers one layer of the stars. -/
module

public import proofs.«01_k».proof.Proof.Maths
public import proofs.«01_k».proof.Proof.Segment
public import proofs.«01_k».proof.Proof.Gen.ReferenceIdeal.Run
public import Idealize.ShloMosaic.Lib.Tactic.CleanTypes

@[expose] public section

set_option maxRecDepth 16384

noncomputable section

open Idealize.ShloMosaic Idealize.ShloMosaic.TcCoe Idealize.SL.Sem

namespace Cert.ReferenceIdeal.Stars

open Cert.ReferenceIdeal Cert.ReferenceIdeal.Gen Cert.ReferenceIdeal.Value Cert.Star

variable (V0 : Valuation τ sig (Elt Ideal))

/-! ## The edges' words -/

/-- The table of spokes, its first row: the sources. -/
theorem table_src (t : Fin 6) : lit0 (S2x6.rowMajor (ix2 0 t)) = BitVec.ofNat 32 (spokeSrc t) := by
  fin_cases t <;> rfl

/-- The table of spokes, its second row: the destinations. -/
theorem table_dst (t : Fin 6) : lit0 (S2x6.rowMajor (ix2 1 t)) = BitVec.ofNat 32 (spokeDst t) := by
  fin_cases t <;> rfl

/-- A spoke's word: the end within its star plus four times the star's number. -/
theorem spoke_word (base : Fin 6 → ℕ) {e : ℕ} (he : e < 150000) :
    IntOp.addi (BitVec.ofNat 32 (base ⟨e % 6, Nat.mod_lt _ (by norm_num)⟩)) (IntOp.muli (BitVec.ofNat 32 (e / 6)) 4#32)
      = BitVec.ofNat 32 (endOf base e) := by
  unfold endOf
  rw [if_pos he, Nat.mul_comm 4, BitVec.ofNat_add, BitVec.ofNat_mul]
  rfl

/-- The word of spoke `e`'s source. -/
theorem v14_at (e : Fin 150000) : res_main_v14 (F := Ideal) V0 (ix1 e) = BitVec.ofNat 32 (endOf spokeSrc e.val) := by
  unfold res_main_v14 res_main_v12
  clean_types
  pointwise
  rw [table_src]
  exact spoke_word spokeSrc e.isLt

/-- The word of spoke `e`'s destination. -/
theorem v16_at (e : Fin 150000) : res_main_v16 (F := Ideal) V0 (ix1 e) = BitVec.ofNat 32 (endOf spokeDst e.val) := by
  unfold res_main_v16 res_main_v12
  clean_types
  pointwise
  rw [table_dst]
  exact spoke_word spokeDst e.isLt

/-- The word of an edge's end, spoke or not. -/
theorem end_word (base : Fin 6 → ℕ) (spoke : Fin 150000 → BitVec 32)
    (h : ∀ e : Fin 150000, spoke e = BitVec.ofNat 32 (endOf base e.val)) (e : Fin 250000) :
    (if hlt : e.val < 150000 then spoke ⟨e.val, hlt⟩ else BitVec.ofNat 32 (e.val - 150000))
      = BitVec.ofNat 32 (endOf base e.val) := by
  split_ifs with hlt
  · exact h _
  · unfold endOf; rw [if_neg hlt]

/-- The word of edge `e`'s source, in the first layer. -/
theorem v19_at (e : Fin 250000) : res_main_v19 (F := Ideal) V0 (ix1 e) = BitVec.ofNat 32 (endOf spokeSrc e.val) := by
  unfold res_main_v19 res_main_v18
  clean_types
  pointwise
  exact end_word spokeSrc (fun e => res_main_v14 (F := Ideal) V0 (ix1 e)) (v14_at V0) e

/-- The word of edge `e`'s destination, in the first layer. -/
theorem v20_at (e : Fin 250000) : res_main_v20 (F := Ideal) V0 (ix1 e) = BitVec.ofNat 32 (endOf spokeDst e.val) := by
  unfold res_main_v20 res_main_v18
  clean_types
  pointwise
  exact end_word spokeDst (fun e => res_main_v16 (F := Ideal) V0 (ix1 e)) (v16_at V0) e

/-- The second layer's edges are the first's: the sources, -/
theorem v62_eq : res_main_v62 (F := Ideal) V0 = res_main_v19 V0 := rfl

/-- the destinations, -/
theorem v63_eq : res_main_v63 (F := Ideal) V0 = res_main_v20 V0 := rfl

/-- and the nodes' inverse roots. -/
theorem v70_eq : res_main_v70 (F := Ideal) V0 = res_main_v27 V0 := rfl

/-- Every edge's source is a node. -/
theorem src_lt (e : Fin 250000) : endOf spokeSrc e.val < 100000 := endOf_lt _ spokeSrc_lt e.isLt

/-- Every edge's destination is a node. -/
theorem dst_lt (e : Fin 250000) : endOf spokeDst e.val < 100000 := endOf_lt _ spokeDst_lt e.isLt

/-! ## The inverse roots of the degrees -/

/-- The destinations as the column of segment numbers. -/
theorem dst_column (e : Fin 250000) :
    broadcastInDim S250000x1 ![0] bcast_S250000_S250000x1_0 (res_main_v20 (F := Ideal) V0) (ix2 e 0)
      = BitVec.ofNat 32 (endOf spokeDst e.val) := by
  pointwise
  exact v20_at V0 e

/-- Node `j` of star `g`, among all nodes. -/
abbrev node {g : ℕ} (hg : g < 25000) (j : Fin 4) : Fin 100000 := ⟨4 * g + j.val, by have := j.isLt; omega⟩

/-- One over the root of a node's degree is its inverse root. -/
theorem inv_sqrt_degree (j : Fin 4) :
    Ideal.div 1 (Ideal.sqrt (if j = 0 then ((4 : ℝ) : EReal) else ((2 : ℝ) : EReal))) = (invRoot j : EReal) := by
  have h4 : Real.sqrt 4 = 2 := by
    rw [show (4 : ℝ) = 2 ^ 2 by norm_num]; exact Real.sqrt_sq (by norm_num)
  have h2 : Real.sqrt 2 ≠ 0 := by positivity
  unfold invRoot
  split_ifs
  · rw [Ideal.sqrt_coe, if_neg (by norm_num), h4, Ideal.div_coe (by norm_num), one_mul]
  · rw [Ideal.sqrt_coe, if_neg (by norm_num), Ideal.div_coe h2, one_mul]

/-- Node `j` of star `g` has the inverse root of its degree. -/
theorem v27_at {g : ℕ} (hg : g < 25000) (j : Fin 4) :
    res_main_v27 (F := Ideal) V0 (ix1 (node hg j)) = (invRoot j : EReal) := by
  have hs := Segment.nums_sum (N := 100000) (E := 250000) scatter_S100000_S250000x1_S250000_n_0_0_1_wf
    (broadcastInDim S100000 ![] bcast_S_S100000 (constant (F := Ideal) S_ .f32 0x00000000#32))
    (broadcastInDim S250000x1 ![0] bcast_S250000_S250000x1_0 (res_main_v20 (F := Ideal) V0))
    (broadcastInDim S250000 ![] bcast_S_S250000 (constant (F := Ideal) S_ .f32 0x3F800000#32))
    (endOf spokeDst) (fun e => (dst_lt e).trans (by norm_num)) (dst_column V0) (node hg j)
  unfold res_main_v27
  clean_types
  pointwise
  refine (congrArg (fun x => Ideal.div 1 (Ideal.sqrt x)) (hs.trans ?_)).trans (inv_sqrt_degree j)
  rw [← degree hg j]
  pointwise

/-! ## One graph layer's aggregation, of any rows -/

/-- An edge's end as the index by which its row is taken: the wrap of an index that is not negative is that index. -/
theorem wrapped_column (x : IVec S250000 32) (D : ℕ → ℕ) (hx : ∀ e : Fin 250000, x (ix1 e) = BitVec.ofNat 32 (D e.val))
    (hD : ∀ e : Fin 250000, D e.val < 100000) (e : Fin 250000) :
    broadcastInDim S250000x1 ![0] bcast_S250000_S250000x1_0
        (select (cmpi .slt x (broadcastInDim S250000 ![] bcast_S_S250000 (constantI S_ 32 0#32)))
          (addi x (broadcastInDim S250000 ![] bcast_S_S250000 (constantI S_ 32 100000#32))) x) (ix2 e 0)
      = BitVec.ofNat 32 (D e.val) := by
  pointwise
  rw [hx]
  exact Segment.wrap_word ((hD e).trans (by norm_num)) _

/-- The rows taken at the edges' ends. -/
theorem take_rows (x : S100000x64.Idx → EReal) (idx : IVec S250000x1 32) (e : Fin 250000) (l : Fin 64) {n : ℕ}
    (hn : n < 100000) (h : idx (ix2 e 0) = BitVec.ofNat 32 n) :
    Host.gather gather_S100000x64_S250000x1_S250000x64_1_0_n_n_0_1_164 x idx (ix2 e l) = x (ix2 ⟨n, hn⟩ l) := by
  rw [ix2_eq_valueIdx, ix2_eq_valueIdx]
  exact Routing.gather_row _ rfl rfl rfl rfl rfl x idx e l ⟨n, hn⟩ (by rw [← ix2_eq_valueIdx]; exact h) (by norm_num)

/-- The numbers taken at the edges' ends. -/
theorem take_nums (x : S100000.Idx → EReal) (idx : IVec S250000x1 32) (e : Fin 250000) {n : ℕ}
    (hn : n < 100000) (h : idx (ix2 e 0) = BitVec.ofNat 32 n) :
    Host.gather gather_S100000_S250000x1_S250000_n_0_n_n_0_1_1 x idx (ix1 e) = x (ix1 ⟨n, hn⟩) := by
  rw [ix1_eq_valueIdx, ix1_eq_valueIdx]
  exact Routing.gather_take1 _ rfl rfl rfl rfl x idx e ⟨n, hn⟩ (by rw [← ix2_eq_valueIdx]; exact h) (by norm_num)

/-- The column of an edge's ends, wrapped as jnp wraps an index. -/
abbrev wrapped (x : IVec S250000 32) : IVec S250000x1 32 :=
  broadcastInDim S250000x1 ![0] bcast_S250000_S250000x1_0
    (select (cmpi .slt x (broadcastInDim S250000 ![] bcast_S_S250000 (constantI S_ 32 0#32)))
      (addi x (broadcastInDim S250000 ![] bcast_S_S250000 (constantI S_ 32 100000#32))) x)

/-- One layer's aggregation of the rows `X`: every edge's message added into its destination's row. -/
abbrev aggregate (X : FVec Ideal S100000x64 .f32) : FVec Ideal S100000x64 .f32 :=
  Host.scatterAdd scatter_S100000x64_S250000x1_S250000x64_1_0_0_1
    (broadcastInDim S100000x64 ![] bcast_S_S100000x64 (constant S_ .f32 0x00000000#32))
    (broadcastInDim S250000x1 ![0] bcast_S250000_S250000x1_0 (res_main_v20 (F := Ideal) V0))
    (mulf (Host.gather gather_S100000x64_S250000x1_S250000x64_1_0_n_n_0_1_164 X (wrapped (res_main_v19 (F := Ideal) V0)))
      (broadcastInDim S250000x64 ![0, 1] bcast_S250000x1_S250000x64_0_1
        (broadcastInDim S250000x1 ![0] bcast_S250000_S250000x1_0
          (mulf (Host.gather gather_S100000_S250000x1_S250000_n_0_n_n_0_1_1 (res_main_v27 (F := Ideal) V0)
              (wrapped (res_main_v19 (F := Ideal) V0)))
            (Host.gather gather_S100000_S250000x1_S250000_n_0_n_n_0_1_1 (res_main_v27 (F := Ideal) V0)
              (wrapped (res_main_v20 (F := Ideal) V0)))))))

/-- The aggregation at node `j` of star `g` is the weighted sum over the star's nodes. -/
theorem aggregate_at (X : FVec Ideal S100000x64 .f32) {g : ℕ} (hg : g < 25000) (j : Fin 4) (l : Fin 64) :
    aggregate V0 X (ix2 (node hg j) l) = ∑ i : Fin 4, wt j i * X (ix2 (node hg i) l) := by
  refine (Segment.rows_sum (N := 100000) (C := 64) (E := 250000) scatter_S100000x64_S250000x1_S250000x64_1_0_0_1_wf
    _ _ _ (endOf spokeDst) (fun e => (dst_lt e).trans (by norm_num)) (dst_column V0) (node hg j) l).trans ?_
  let XX : ℕ → EReal := fun n => if h : n < 100000 then X (ix2 ⟨n, h⟩ l) else 0
  let NN : ℕ → EReal := fun n => if h : n < 100000 then res_main_v27 (F := Ideal) V0 (ix1 ⟨n, h⟩) else 0
  have hX : ∀ i : Fin 4, XX (4 * g + i.val) = X (ix2 (node hg i) l) := fun i => dif_pos (node hg i).isLt
  have hN : ∀ i : Fin 4, NN (4 * g + i.val) = (invRoot i : EReal) := fun i =>
    (dif_pos (node hg i).isLt).trans (v27_at V0 hg i)
  have key := messages XX NN hg hN j
  simp only [hX] at key
  rw [← key]
  pointwise
  refine Finset.sum_congr rfl fun e _ => ?_
  have a1 := take_rows X _ e l (src_lt e) (wrapped_column _ _ (v19_at V0) src_lt e)
  have a2 := take_nums (res_main_v27 (F := Ideal) V0) _ e (src_lt e) (wrapped_column _ _ (v19_at V0) src_lt e)
  have a3 := take_nums (res_main_v27 (F := Ideal) V0) _ e (dst_lt e) (wrapped_column _ _ (v20_at V0) dst_lt e)
  have b1 : XX (endOf spokeSrc e.val) = X (ix2 ⟨_, src_lt e⟩ l) := dif_pos (src_lt e)
  have b2 : NN (endOf spokeSrc e.val) = res_main_v27 (F := Ideal) V0 (ix1 ⟨_, src_lt e⟩) := dif_pos (src_lt e)
  have b3 : NN (endOf spokeDst e.val) = res_main_v27 (F := Ideal) V0 (ix1 ⟨_, dst_lt e⟩) := dif_pos (dst_lt e)
  rw [b1, b2, b3, ← a1, ← a2, ← a3]

end Cert.ReferenceIdeal.Stars

end
-- ==== Proof.ReferenceResult.lean ====
/- The reference's result at star `g` and channel `o`: the stars' function of its arguments. -/
module

public import proofs.«01_k».proof.Proof.Reference

@[expose] public section

set_option maxRecDepth 16384

noncomputable section

open Idealize.ShloMosaic Idealize.ShloMosaic.TcCoe Idealize.SL.Sem

namespace Cert.ReferenceIdeal.Stars

open Cert.ReferenceIdeal Cert.ReferenceIdeal.Gen Cert.ReferenceIdeal.Value Cert.Star

variable (V0 : Valuation τ sig (Elt Ideal))

/-! ## The arguments as functions of their coordinates -/

/-- Star `g`'s state. -/
abbrev st (V0 : Valuation τ sig (Elt Ideal)) (g : Fin 25000) (p : Fin 12) : EReal :=
  (V0 (Proc.devRef .tc main_arg0) : S25000x12.Idx → EReal) (ix2 g p)
/-- The first layer's weights, -/
abbrev w1 (V0 : Valuation τ sig (Elt Ideal)) (k : Fin 4) (l : Fin 64) : EReal :=
  (V0 (Proc.devRef .tc main_arg1) : S4x64.Idx → EReal) (ix2 k l)
/-- and bias. -/
abbrev b1 (V0 : Valuation τ sig (Elt Ideal)) (l : Fin 64) : EReal :=
  (V0 (Proc.devRef .tc main_arg2) : S64.Idx → EReal) (ix1 l)
/-- The second layer's weights, -/
abbrev w2 (V0 : Valuation τ sig (Elt Ideal)) (k l : Fin 64) : EReal :=
  (V0 (Proc.devRef .tc main_arg3) : S64x64.Idx → EReal) (ix2 k l)
/-- and bias. -/
abbrev b2 (V0 : Valuation τ sig (Elt Ideal)) (l : Fin 64) : EReal :=
  (V0 (Proc.devRef .tc main_arg4) : S64.Idx → EReal) (ix1 l)
/-- The head's weights, -/
abbrev w3 (V0 : Valuation τ sig (Elt Ideal)) (k : Fin 64) (o : Fin 256) : EReal :=
  (V0 (Proc.devRef .tc main_arg5) : S64x256.Idx → EReal) (ix2 k o)
/-- and bias. -/
abbrev b3 (V0 : Valuation τ sig (Elt Ideal)) (o : Fin 256) : EReal :=
  (V0 (Proc.devRef .tc main_arg6) : S256.Idx → EReal) (ix1 o)

/-! ## The first layer -/

/-- The nodes' features. -/
abbrev features : FVec Ideal S100000x4 .f32 :=
  shapeCast _ (concatenate S25000x4x4 1
    [⟨S25000x1x4, (broadcastInDim S25000x1x4 ![] bcast_S_S25000x1x4 (constant (F := Ideal) S_ .f32 0x00000000#32))⟩,
     ⟨S25000x3x4, (shapeCast _ (V0 (Proc.devRef .tc main_arg0)) shapeCasts_S25000x12_S25000x3x4)⟩]
    concatenates_S25000x1x4_S25000x3x4_S25000x4x4_d1) shapeCasts_S25000x4x4_S100000x4

/-- The features of node `j` of star `g`. -/
theorem features_at (g : Fin 25000) (i k : Fin 4) :
    features V0 (ix2 (node g.isLt i) k) = feature (st V0 g) i k := by
  unfold features
  clean_types
  pointwise
  have hi := i.isLt
  have e1 : (4 * g.val + i.val) % 4 = i.val := by omega
  have e2 : (4 * g.val + i.val) / 4 = g.val := by omega
  unfold feature
  simp only [e1, e2]
  by_cases h : i = 0
  · subst h; rfl
  · have h0 : i.val ≠ 0 := fun e => h (Fin.ext e)
    rw [dif_neg (by omega), dif_neg h]
    refine congrArg (V0 (Proc.devRef .tc main_arg0) : S25000x12.Idx → EReal) ?_
    congr 2
    omega

/-- The first layer's rows: the features through the weights. -/
abbrev rows1 : FVec Ideal S100000x64 .f32 :=
  Host.dotGeneral (φ₁ := .f32) (φ₂ := .f32) dot_S100000x4_S4x64_S100000x64_1_0_0_1_n_n none (features V0)
    (V0 (Proc.devRef .tc main_arg1))

/-- The first layer's row of node `j` of star `g`. -/
theorem rows1_at (g : Fin 25000) (i : Fin 4) (l : Fin 64) :
    rows1 V0 (ix2 (node g.isLt i) l) = ∑ k : Fin 4, feature (st V0 g) i k * w1 V0 k l := by
  unfold rows1
  simp only [← features_at]
  generalize features V0 = X
  clean_types
  pointwise

/-- The first layer before its rectifier is the aggregation of its rows and the bias. -/
theorem v58_eq : res_main_v58 (F := Ideal) V0 = addf (aggregate V0 (rows1 V0))
    (broadcastInDim S100000x64 ![0, 1] bcast_S1x64_S100000x64_0_1
      (broadcastInDim S1x64 ![1] bcast_S64_S1x64_1 (V0 (Proc.devRef .tc main_arg2)))) := by
  unfold res_main_v58
  rfl

/-- The first layer before its rectifier, at node `j` of star `g`. -/
theorem v58_at (g : Fin 25000) (j : Fin 4) (l : Fin 64) :
    res_main_v58 (F := Ideal) V0 (ix2 (node g.isLt j) l)
      = (∑ i : Fin 4, wt j i * ∑ k : Fin 4, feature (st V0 g) i k * w1 V0 k l) + b1 V0 l := by
  rw [v58_eq, addf_apply, aggregate_at]
  simp only [rows1_at]
  clean_types
  pointwise

/-- The rectifier of an array, as the reference writes it. -/
abbrev rectified (X : FVec Ideal S100000x64 .f32) : FVec Ideal S100000x64 .f32 :=
  select (cmpf .oge X (broadcastInDim S100000x64 ![] bcast_S_S100000x64 (constant S_ .f32 0x00000000#32))) X
    (mulf (broadcastInDim S100000x64 ![] bcast_S_S100000x64 (id (constant S_ .f32 0x3C23D70A#32))) X)

/-- The rectifier of an array at an index. -/
theorem rectified_at (X : FVec Ideal S100000x64 .f32) (n : Fin 100000) (l : Fin 64) :
    rectified X (ix2 n l) = leaky (X (ix2 n l)) := by
  rw [← leaky_eq_select]
  unfold rectified
  pointwise
  rfl

/-! ## The second layer -/

/-- The second layer's rows: the first layer, rectified, through the weights. -/
abbrev rows2 : FVec Ideal S100000x64 .f32 :=
  Host.dotGeneral (φ₁ := .f32) (φ₂ := .f32) dot_S100000x64_S64x64_S100000x64_1_0_0_1_n_n none
    (rectified (res_main_v58 (F := Ideal) V0)) (V0 (Proc.devRef .tc main_arg3))

/-- The second layer's row of node `i` of star `g`. -/
theorem rows2_at (g : Fin 25000) (i : Fin 4) (l : Fin 64) :
    rows2 V0 (ix2 (node g.isLt i) l)
      = ∑ k : Fin 64, layer (feature (st V0 g)) (w1 V0) (b1 V0) i k * w2 V0 k l := by
  have h (k : Fin 64) : layer (feature (st V0 g)) (w1 V0) (b1 V0) i k
      = rectified (res_main_v58 (F := Ideal) V0) (ix2 (node g.isLt i) k) := by
    rw [rectified_at, v58_at]; rfl
  simp only [h]
  unfold rows2
  generalize rectified (res_main_v58 (F := Ideal) V0) = X
  clean_types
  pointwise

/-- The second layer before its rectifier is the aggregation of its rows and the bias. -/
theorem v101_eq : res_main_v101 (F := Ideal) V0 = addf (aggregate V0 (rows2 V0))
    (broadcastInDim S100000x64 ![0, 1] bcast_S1x64_S100000x64_0_1
      (broadcastInDim S1x64 ![1] bcast_S64_S1x64_1 (V0 (Proc.devRef .tc main_arg4)))) := by
  unfold res_main_v101
  rw [v62_eq, v63_eq, v70_eq]

/-- The second layer before its rectifier, at node `j` of star `g`. -/
theorem v101_at (g : Fin 25000) (j : Fin 4) (l : Fin 64) :
    res_main_v101 (F := Ideal) V0 (ix2 (node g.isLt j) l)
      = (∑ i : Fin 4, wt j i * ∑ k : Fin 64, layer (feature (st V0 g)) (w1 V0) (b1 V0) i k * w2 V0 k l) + b2 V0 l := by
  rw [v101_eq, addf_apply, aggregate_at]
  simp only [rows2_at]
  clean_types
  pointwise

/-! ## The head and the mean -/

/-- The head before its rectifier, at node `j` of star `g`. -/
theorem v106_at (g : Fin 25000) (j : Fin 4) (o : Fin 256) :
    res_main_v106 (F := Ideal) V0 (ix2 (node g.isLt j) o)
      = (∑ k : Fin 64, layer (layer (feature (st V0 g)) (w1 V0) (b1 V0)) (w2 V0) (b2 V0) j k * w3 V0 k o) + b3 V0 o := by
  have h (k : Fin 64) : layer (layer (feature (st V0 g)) (w1 V0) (b1 V0)) (w2 V0) (b2 V0) j k
      = rectified (res_main_v101 (F := Ideal) V0) (ix2 (node g.isLt j) k) := by
    rw [rectified_at, v101_at]; rfl
  simp only [h]
  unfold res_main_v106
  show addf (Host.dotGeneral (φ₁ := .f32) (φ₂ := .f32) dot_S100000x64_S64x256_S100000x256_1_0_0_1_n_n none
    (rectified (res_main_v101 (F := Ideal) V0)) (V0 (Proc.devRef .tc main_arg5))) _ _ = _
  generalize rectified (res_main_v101 (F := Ideal) V0) = X
  clean_types
  pointwise

/-- The mean over each star of the rectifier of an array of all nodes' rows, as the reference writes it. -/
abbrev wholeOf (X : FVec Ideal S100000x256 .f32) : FVec Ideal S25000x256 .f32 :=
  Host.divf
    (Host.reduceAdd
      (shapeCast _
        (select (cmpf .oge X (broadcastInDim S100000x256 ![] bcast_S_S100000x256 (constant S_ .f32 0x00000000#32))) X
          (mulf (broadcastInDim S100000x256 ![] bcast_S_S100000x256 (id (constant S_ .f32 0x3C23D70A#32))) X))
        shapeCasts_S100000x256_S25000x4x256)
      (constant S_ .f32 0x00000000#32) reducesTo_S25000x4x256_S25000x256_d1 h_S_)
    (broadcastInDim S25000x256 ![] bcast_S_S25000x256 (constant S_ .f32 0x40800000#32))

/-- The reference's whole result: the mean over each star of the rectified head. -/
abbrev whole : FVec Ideal S25000x256 .f32 :=
  wholeOf (res_main_v106 (F := Ideal) V0)

/-- The word of four. -/
theorem four_word : Ideal.ofBits .f32 0x40800000#32 = ((4 : ℝ) : EReal) := by
  simp [Ideal.ofBits, Ideal.ieee, -EReal.coe_mul]
  norm_num

/-- The reference's result at star `g` and channel `o` is the stars' function of its arguments. -/
theorem whole_at (g : Fin 25000) (o : Fin 256) :
    whole V0 (ix2 g o) = result (st V0 g) (w1 V0) (b1 V0) (w2 V0) (b2 V0) (w3 V0) (b3 V0) o := by
  have h (j : Fin 4) : head (layer (layer (feature (st V0 g)) (w1 V0) (b1 V0)) (w2 V0) (b2 V0) j) (w3 V0) (b3 V0) o
      = leaky (res_main_v106 (F := Ideal) V0 (ix2 (node g.isLt j) o)) := by
    rw [v106_at]; rfl
  unfold result
  simp only [h, ← leaky_eq_select]
  unfold whole wholeOf
  generalize res_main_v106 (F := Ideal) V0 = X
  clean_types
  pointwise
  have hn (x : Fin 4) (hx : g.val * 4 + x.val < 100000) : (⟨g.val * 4 + x.val, hx⟩ : Fin 100000) = node g.isLt x :=
    Fin.ext (by show g.val * 4 + x.val = 4 * g.val + x.val; omega)
  simp only [hn]
  rw [four_word, Ideal.div_coe (by norm_num)]
  rfl

end Cert.ReferenceIdeal.Stars

end
-- ==== Proof.Claims.lean ====
/- The five claims: the runs end with the arguments kept and no semaphore left up, and the kernel and the reference end
   with equal results. -/
module

public import proofs.«01_k».proof.Defs
public import proofs.«01_k».proof.Proof.KernelResult
public import proofs.«01_k».proof.Proof.ReferenceResult
public import proofs.«01_k».proof.Proof.Gen.Kernel.Frame
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem
open Idealize.ShloMosaic.StableHlo (launchContents)

namespace Cert.Proof.StarClaims

/-- The kernel runs, keeps its arguments and leaves every semaphore at zero. -/
theorem frame_kernel : Cert.quiescent_Kernel := fun m ρ _ => Cert.Kernel.Gen.frame m ρ

/-- So does the kernel on the extended reals, -/
theorem frame_kernel_ideal : Cert.quiescent_KernelIdeal := fun m ρ _ => Cert.KernelIdeal.Gen.frame m ρ

/-- and the reference on the extended reals. -/
theorem frame_reference_ideal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel on the extended reals is the kernel's own program. -/
theorem preserves : Cert.preserves_Kernel_KernelIdeal := trivial

/-- From arguments that agree, the reference's result is the kernel's, at every star and output channel. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Stars.whole (launchContents m' c) : Cert.KernelIdeal.S25000x256.Idx → EReal) = Cert.KernelIdeal.Stars.whole m c := by
  funext i
  have hi : i = ix2 (i 0) (i 1) := by funext a; fin_cases a <;> rfl
  refine (congrArg _ hi).trans ((Cert.ReferenceIdeal.Stars.whole_at (launchContents m' c) (i 0) (i 1)).trans ?_)
  unfold Cert.KernelIdeal.Stars.whole
  rw [← h0, ← h1, ← h2, ← h3, ← h4, ← h5, ← h6]

/-- The kernel and the reference end with equal results. -/
theorem algebraic : Cert.algebraic_KernelIdeal_ReferenceIdeal := fun m ρ m' ρ' _ hag =>
  ⟨fun c => Cert.KernelIdeal.Stars.whole m c, Cert.KernelIdeal.Stars.run m ρ,
    (θ_run Cert.ReferenceIdeal.defs _ _).mono (fun _ h c => ⟨(h c).1.trans
      (result_eq m m' c (hag c).1 (hag c).2.1 (hag c).2.2.1 (hag c).2.2.2.1 (hag c).2.2.2.2.1 (hag c).2.2.2.2.2.1
        (hag c).2.2.2.2.2.2), (h c).2⟩)
      (Cert.ReferenceIdeal.Value.run (F := Ideal) m' ρ')⟩

end Cert.Proof.StarClaims

end
-- ==== Proof.lean ====
module

public import proofs.«01_k».proof.Defs
public import proofs.«01_k».proof.Proof.Claims
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The five claims together. -/
theorem claim : Cert.Claim := ⟨Cert.Kernel.Gen.facts, Cert.KernelIdeal.Gen.facts, Cert.ReferenceIdeal.Gen.facts,
  StarClaims.frame_kernel, StarClaims.frame_kernel_ideal, StarClaims.frame_reference_ideal, StarClaims.preserves,
  StarClaims.algebraic⟩

end Cert.Proof

end
